-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S2x2x256x1024 : Shape := ⟨4, ![2, 2, 256, 1024]⟩
abbrev S2x2 : Shape := ⟨2, ![2, 2]⟩
abbrev S_ : Shape := ⟨0, ![]⟩
abbrev S256x256 : Shape := ⟨2, ![256, 256]⟩
abbrev S256x1024 : Shape := ⟨2, ![256, 1024]⟩
abbrev S1x1x256x1024 : Shape := ⟨4, ![1, 1, 256, 1024]⟩
abbrev S1x1 : Shape := ⟨2, ![1, 1]⟩

abbrev nBuf : Space → Nat
  | .hbm => 5
  | .vmem => 4
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x256, .fp8e4m3⟩
  | .local _ .vmem, ⟨1, _⟩ => ⟨S256x2048, .fp8e4m3⟩
  | .local _ .vmem, ⟨2, _⟩ => ⟨S4096x2048, .f32⟩
  | .local _ .vmem, ⟨3, _⟩ => ⟨S2x2x256x1024, .f32⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v16 : BitVec 32 := Scalar.muli v2 c256_i32
  let v17 : Index := Scalar.indexCast v16
  let c0_11 : Index := 0#32
  ![v17.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_33 : BitVec 32 := 1#32
  let v40 : BitVec 32 := Scalar.muli v7 c1_i32_33
  let v41 : BitVec 32 := Scalar.addi c0_i32_34 v40
  v41.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_47 : BitVec 32 := 1#32
  let v50 : BitVec 32 := Scalar.muli v5 c1_i32_47
  let v51 : BitVec 32 := Scalar.addi c0_i32_48 v50
  v51.toNat
def k0_off2 (d0 : Dev nD) (c0_i32_107 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : BitVec 32 := Scalar.subi v2 c0_i32_107
  let c1_i32_108 : BitVec 32 := 1#32
  let v89 : BitVec 32 := Scalar.subi v88 c1_i32_108
  let c16_i32_109 : BitVec 32 := 16#32
  let v90 : BitVec 32 := Scalar.addi v89 c16_i32_109
  let c16_i32_110 : BitVec 32 := 16#32
  let v91 : BitVec 32 := Scalar.remsi v90 c16_i32_110
  let c256_i32_118 : BitVec 32 := 256#32
  let v97 : BitVec 32 := Scalar.muli v91 c256_i32_118
  let v98 : Index := Scalar.indexCast v97
  let c0_119 : Index := 0#32
  ![v98.toNat, 0]
def k0_off3 (d0 : Dev nD) (c0_i32_111 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v92 : BitVec 32 := Scalar.addi v2 c0_i32_111
  let c1_i32_112 : BitVec 32 := 1#32
  let v93 : BitVec 32 := Scalar.addi v92 c1_i32_112
  let c16_i32_113 : BitVec 32 := 16#32
  let v94 : BitVec 32 := Scalar.remsi v93 c16_i32_113
  let c256_i32_131 : BitVec 32 := 256#32
  let v112 : BitVec 32 := Scalar.muli v94 c256_i32_131
  let v113 : Index := Scalar.indexCast v112
  let c0_132 : Index := 0#32
  ![v113.toNat, 0]
def k0_dev5 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_141 : BitVec 32 := 1#32
  let v125 : BitVec 32 := Scalar.muli v5 c1_i32_141
  let v126 : BitVec 32 := Scalar.addi c0_i32_142 v125
  v126.toNat
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_144 : BitVec 32 := 1#32
  let v127 : BitVec 32 := Scalar.muli v7 c1_i32_144
  let v128 : BitVec 32 := Scalar.addi c0_i32_145 v127
  v128.toNat
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_158 : BitVec 32 := 1#32
  let v129 : BitVec 32 := Scalar.muli v7 c1_i32_158
  let v130 : BitVec 32 := Scalar.addi c0_i32_159 v129
  v130.toNat
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_172 : BitVec 32 := 1#32
  let v139 : BitVec 32 := Scalar.muli v5 c1_i32_172
  let v140 : BitVec 32 := Scalar.addi c0_i32_173 v139
  v140.toNat
def k0_dev9 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_266 : BitVec 32 := 1#32
  let v214 : BitVec 32 := Scalar.muli v5 c1_i32_266
  let v215 : BitVec 32 := Scalar.addi c0_i32_267 v214
  v215.toNat
def k0_dev10 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_269 : BitVec 32 := 1#32
  let v216 : BitVec 32 := Scalar.muli v7 c1_i32_269
  let v217 : BitVec 32 := Scalar.addi c0_i32_270 v216
  v217.toNat
def k0_dev11 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_283 : BitVec 32 := 1#32
  let v218 : BitVec 32 := Scalar.muli v7 c1_i32_283
  let v219 : BitVec 32 := Scalar.addi c0_i32_284 v218
  v219.toNat
def k0_dev12 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_297 : BitVec 32 := 1#32
  let v228 : BitVec 32 := Scalar.muli v5 c1_i32_297
  let v229 : BitVec 32 := Scalar.addi c0_i32_298 v228
  v229.toNat
def k0_dev13 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_391 : BitVec 32 := 1#32
  let v303 : BitVec 32 := Scalar.muli v5 c1_i32_391
  let v304 : BitVec 32 := Scalar.addi c0_i32_392 v303
  v304.toNat
def k0_dev14 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_394 : BitVec 32 := 1#32
  let v305 : BitVec 32 := Scalar.muli v7 c1_i32_394
  let v306 : BitVec 32 := Scalar.addi c0_i32_395 v305
  v306.toNat
def k0_dev15 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_408 : BitVec 32 := 1#32
  let v307 : BitVec 32 := Scalar.muli v7 c1_i32_408
  let v308 : BitVec 32 := Scalar.addi c0_i32_409 v307
  v308.toNat
def k0_dev16 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_422 : BitVec 32 := 1#32
  let v317 : BitVec 32 := Scalar.muli v5 c1_i32_422
  let v318 : BitVec 32 := Scalar.addi c0_i32_423 v317
  v318.toNat
def k0_dev17 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_515 : BitVec 32 := 1#32
  let v392 : BitVec 32 := Scalar.muli v5 c1_i32_515
  let v393 : BitVec 32 := Scalar.addi c0_i32_516 v392
  v393.toNat
def k0_dev18 (d0 : Dev nD) : Nat :=
  let c0_i32_519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_518 : BitVec 32 := 1#32
  let v394 : BitVec 32 := Scalar.muli v7 c1_i32_518
  let v395 : BitVec 32 := Scalar.addi c0_i32_519 v394
  v395.toNat
def k0_dev19 (d0 : Dev nD) : Nat :=
  let c0_i32_533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_532 : BitVec 32 := 1#32
  let v396 : BitVec 32 := Scalar.muli v7 c1_i32_532
  let v397 : BitVec 32 := Scalar.addi c0_i32_533 v396
  v397.toNat
def k0_dev20 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_546 : BitVec 32 := 1#32
  let v406 : BitVec 32 := Scalar.muli v5 c1_i32_546
  let v407 : BitVec 32 := Scalar.addi c0_i32_547 v406
  v407.toNat
def k0_dev21 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_639 : BitVec 32 := 1#32
  let v481 : BitVec 32 := Scalar.muli v5 c1_i32_639
  let v482 : BitVec 32 := Scalar.addi c0_i32_640 v481
  v482.toNat
def k0_dev22 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_642 : BitVec 32 := 1#32
  let v483 : BitVec 32 := Scalar.muli v7 c1_i32_642
  let v484 : BitVec 32 := Scalar.addi c0_i32_643 v483
  v484.toNat
def k0_dev23 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_656 : BitVec 32 := 1#32
  let v485 : BitVec 32 := Scalar.muli v7 c1_i32_656
  let v486 : BitVec 32 := Scalar.addi c0_i32_657 v485
  v486.toNat
def k0_dev24 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_670 : BitVec 32 := 1#32
  let v495 : BitVec 32 := Scalar.muli v5 c1_i32_670
  let v496 : BitVec 32 := Scalar.addi c0_i32_671 v495
  v496.toNat
def k0_dev25 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_763 : BitVec 32 := 1#32
  let v570 : BitVec 32 := Scalar.muli v5 c1_i32_763
  let v571 : BitVec 32 := Scalar.addi c0_i32_764 v570
  v571.toNat
def k0_dev26 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_766 : BitVec 32 := 1#32
  let v572 : BitVec 32 := Scalar.muli v7 c1_i32_766
  let v573 : BitVec 32 := Scalar.addi c0_i32_767 v572
  v573.toNat
def k0_dev27 (d0 : Dev nD) : Nat :=
  let c0_i32_781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_780 : BitVec 32 := 1#32
  let v574 : BitVec 32 := Scalar.muli v7 c1_i32_780
  let v575 : BitVec 32 := Scalar.addi c0_i32_781 v574
  v575.toNat
def k0_dev28 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_794 : BitVec 32 := 1#32
  let v584 : BitVec 32 := Scalar.muli v5 c1_i32_794
  let v585 : BitVec 32 := Scalar.addi c0_i32_795 v584
  v585.toNat
def k0_dev29 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_887 : BitVec 32 := 1#32
  let v659 : BitVec 32 := Scalar.muli v5 c1_i32_887
  let v660 : BitVec 32 := Scalar.addi c0_i32_888 v659
  v660.toNat
def k0_dev30 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_890 : BitVec 32 := 1#32
  let v661 : BitVec 32 := Scalar.muli v7 c1_i32_890
  let v662 : BitVec 32 := Scalar.addi c0_i32_891 v661
  v662.toNat
def k0_dev31 (d0 : Dev nD) : Nat :=
  let c0_i32_905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_904 : BitVec 32 := 1#32
  let v663 : BitVec 32 := Scalar.muli v7 c1_i32_904
  let v664 : BitVec 32 := Scalar.addi c0_i32_905 v663
  v664.toNat
def k0_dev32 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_918 : BitVec 32 := 1#32
  let v673 : BitVec 32 := Scalar.muli v5 c1_i32_918
  let v674 : BitVec 32 := Scalar.addi c0_i32_919 v673
  v674.toNat
def k0_dev33 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1011 : BitVec 32 := 1#32
  let v748 : BitVec 32 := Scalar.muli v5 c1_i32_1011
  let v749 : BitVec 32 := Scalar.addi c0_i32_1012 v748
  v749.toNat
def k0_dev34 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1014 : BitVec 32 := 1#32
  let v750 : BitVec 32 := Scalar.muli v7 c1_i32_1014
  let v751 : BitVec 32 := Scalar.addi c0_i32_1015 v750
  v751.toNat
def k0_dev35 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1028 : BitVec 32 := 1#32
  let v752 : BitVec 32 := Scalar.muli v7 c1_i32_1028
  let v753 : BitVec 32 := Scalar.addi c0_i32_1029 v752
  v753.toNat
def k0_dev36 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1042 : BitVec 32 := 1#32
  let v762 : BitVec 32 := Scalar.muli v5 c1_i32_1042
  let v763 : BitVec 32 := Scalar.addi c0_i32_1043 v762
  v763.toNat
def k0_dev37 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1135 : BitVec 32 := 1#32
  let v837 : BitVec 32 := Scalar.muli v5 c1_i32_1135
  let v838 : BitVec 32 := Scalar.addi c0_i32_1136 v837
  v838.toNat
def k0_dev38 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1138 : BitVec 32 := 1#32
  let v839 : BitVec 32 := Scalar.muli v7 c1_i32_1138
  let v840 : BitVec 32 := Scalar.addi c0_i32_1139 v839
  v840.toNat
def k0_dev39 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1152 : BitVec 32 := 1#32
  let v841 : BitVec 32 := Scalar.muli v7 c1_i32_1152
  let v842 : BitVec 32 := Scalar.addi c0_i32_1153 v841
  v842.toNat
def k0_dev40 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1166 : BitVec 32 := 1#32
  let v851 : BitVec 32 := Scalar.muli v5 c1_i32_1166
  let v852 : BitVec 32 := Scalar.addi c0_i32_1167 v851
  v852.toNat
def k0_dev41 (d0 : Dev nD) : Nat :=
  let c0_i32_1260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1259 : BitVec 32 := 1#32
  let v926 : BitVec 32 := Scalar.muli v5 c1_i32_1259
  let v927 : BitVec 32 := Scalar.addi c0_i32_1260 v926
  v927.toNat
def k0_dev42 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1262 : BitVec 32 := 1#32
  let v928 : BitVec 32 := Scalar.muli v7 c1_i32_1262
  let v929 : BitVec 32 := Scalar.addi c0_i32_1263 v928
  v929.toNat
def k0_dev43 (d0 : Dev nD) : Nat :=
  let c0_i32_1277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1276 : BitVec 32 := 1#32
  let v930 : BitVec 32 := Scalar.muli v7 c1_i32_1276
  let v931 : BitVec 32 := Scalar.addi c0_i32_1277 v930
  v931.toNat
def k0_dev44 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1290 : BitVec 32 := 1#32
  let v940 : BitVec 32 := Scalar.muli v5 c1_i32_1290
  let v941 : BitVec 32 := Scalar.addi c0_i32_1291 v940
  v941.toNat
def k0_dev45 (d0 : Dev nD) : Nat :=
  let c0_i32_1384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1383 : BitVec 32 := 1#32
  let v1015 : BitVec 32 := Scalar.muli v5 c1_i32_1383
  let v1016 : BitVec 32 := Scalar.addi c0_i32_1384 v1015
  v1016.toNat
def k0_dev46 (d0 : Dev nD) : Nat :=
  let c0_i32_1387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1386 : BitVec 32 := 1#32
  let v1017 : BitVec 32 := Scalar.muli v7 c1_i32_1386
  let v1018 : BitVec 32 := Scalar.addi c0_i32_1387 v1017
  v1018.toNat
def k0_dev47 (d0 : Dev nD) : Nat :=
  let c0_i32_1401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1400 : BitVec 32 := 1#32
  let v1019 : BitVec 32 := Scalar.muli v7 c1_i32_1400
  let v1020 : BitVec 32 := Scalar.addi c0_i32_1401 v1019
  v1020.toNat
def k0_dev48 (d0 : Dev nD) : Nat :=
  let c0_i32_1415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1414 : BitVec 32 := 1#32
  let v1029 : BitVec 32 := Scalar.muli v5 c1_i32_1414
  let v1030 : BitVec 32 := Scalar.addi c0_i32_1415 v1029
  v1030.toNat
def k0_dev49 (d0 : Dev nD) : Nat :=
  let c0_i32_1508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1507 : BitVec 32 := 1#32
  let v1104 : BitVec 32 := Scalar.muli v5 c1_i32_1507
  let v1105 : BitVec 32 := Scalar.addi c0_i32_1508 v1104
  v1105.toNat
def k0_dev50 (d0 : Dev nD) : Nat :=
  let c0_i32_1511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1510 : BitVec 32 := 1#32
  let v1106 : BitVec 32 := Scalar.muli v7 c1_i32_1510
  let v1107 : BitVec 32 := Scalar.addi c0_i32_1511 v1106
  v1107.toNat
def k0_dev51 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1524 : BitVec 32 := 1#32
  let v1108 : BitVec 32 := Scalar.muli v7 c1_i32_1524
  let v1109 : BitVec 32 := Scalar.addi c0_i32_1525 v1108
  v1109.toNat
def k0_dev52 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1538 : BitVec 32 := 1#32
  let v1118 : BitVec 32 := Scalar.muli v5 c1_i32_1538
  let v1119 : BitVec 32 := Scalar.addi c0_i32_1539 v1118
  v1119.toNat
def k0_dev53 (d0 : Dev nD) : Nat :=
  let c0_i32_1632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1631 : BitVec 32 := 1#32
  let v1193 : BitVec 32 := Scalar.muli v5 c1_i32_1631
  let v1194 : BitVec 32 := Scalar.addi c0_i32_1632 v1193
  v1194.toNat
def k0_dev54 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1634 : BitVec 32 := 1#32
  let v1195 : BitVec 32 := Scalar.muli v7 c1_i32_1634
  let v1196 : BitVec 32 := Scalar.addi c0_i32_1635 v1195
  v1196.toNat
def k0_dev55 (d0 : Dev nD) : Nat :=
  let c0_i32_1649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1648 : BitVec 32 := 1#32
  let v1197 : BitVec 32 := Scalar.muli v7 c1_i32_1648
  let v1198 : BitVec 32 := Scalar.addi c0_i32_1649 v1197
  v1198.toNat
def k0_dev56 (d0 : Dev nD) : Nat :=
  let c0_i32_1663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1662 : BitVec 32 := 1#32
  let v1207 : BitVec 32 := Scalar.muli v5 c1_i32_1662
  let v1208 : BitVec 32 := Scalar.addi c0_i32_1663 v1207
  v1208.toNat
def k0_dev57 (d0 : Dev nD) : Nat :=
  let c0_i32_1756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1755 : BitVec 32 := 1#32
  let v1282 : BitVec 32 := Scalar.muli v5 c1_i32_1755
  let v1283 : BitVec 32 := Scalar.addi c0_i32_1756 v1282
  v1283.toNat
def k0_dev58 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1758 : BitVec 32 := 1#32
  let v1284 : BitVec 32 := Scalar.muli v7 c1_i32_1758
  let v1285 : BitVec 32 := Scalar.addi c0_i32_1759 v1284
  v1285.toNat
def k0_dev59 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1772 : BitVec 32 := 1#32
  let v1286 : BitVec 32 := Scalar.muli v7 c1_i32_1772
  let v1287 : BitVec 32 := Scalar.addi c0_i32_1773 v1286
  v1287.toNat
def k0_dev60 (d0 : Dev nD) : Nat :=
  let c0_i32_1787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1786 : BitVec 32 := 1#32
  let v1296 : BitVec 32 := Scalar.muli v5 c1_i32_1786
  let v1297 : BitVec 32 := Scalar.addi c0_i32_1787 v1296
  v1297.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v1334 : BitVec 32 := Scalar.subi v2 c14_i32
  let c1_i32_1846 : BitVec 32 := 1#32
  let v1335 : BitVec 32 := Scalar.subi v1334 c1_i32_1846
  let c16_i32_1847 : BitVec 32 := 16#32
  let v1336 : BitVec 32 := Scalar.addi v1335 c16_i32_1847
  let c16_i32_1848 : BitVec 32 := 16#32
  let v1337 : BitVec 32 := Scalar.remsi v1336 c16_i32_1848
  let c256_i32_1862 : BitVec 32 := 256#32
  let v1357 : BitVec 32 := Scalar.muli v1337 c256_i32_1862
  let v1358 : Index := Scalar.indexCast v1357
  let c0_1863 : Index := 0#32
  ![v1358.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1849 : BitVec 32 := 14#32
  let v1338 : BitVec 32 := Scalar.addi v2 c14_i32_1849
  let c1_i32_1850 : BitVec 32 := 1#32
  let v1339 : BitVec 32 := Scalar.addi v1338 c1_i32_1850
  let c16_i32_1851 : BitVec 32 := 16#32
  let v1340 : BitVec 32 := Scalar.remsi v1339 c16_i32_1851
  let c256_i32_1878 : BitVec 32 := 256#32
  let v1379 : BitVec 32 := Scalar.muli v1340 c256_i32_1878
  let v1380 : Index := Scalar.indexCast v1379
  let c1024_1879 : Index := 1024#32
  ![v1380.toNat, 1024]
def k0_dev61 (d0 : Dev nD) : Nat :=
  let c0_i32_1886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1885 : BitVec 32 := 1#32
  let v1385 : BitVec 32 := Scalar.muli v5 c1_i32_1885
  let v1386 : BitVec 32 := Scalar.addi c0_i32_1886 v1385
  v1386.toNat
def k0_dev62 (d0 : Dev nD) : Nat :=
  let c0_i32_1889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1888 : BitVec 32 := 1#32
  let v1387 : BitVec 32 := Scalar.muli v7 c1_i32_1888
  let v1388 : BitVec 32 := Scalar.addi c0_i32_1889 v1387
  v1388.toNat
def k0_dev63 (d0 : Dev nD) : Nat :=
  let c0_i32_1903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1902 : BitVec 32 := 1#32
  let v1389 : BitVec 32 := Scalar.muli v7 c1_i32_1902
  let v1390 : BitVec 32 := Scalar.addi c0_i32_1903 v1389
  v1390.toNat
def k0_dev64 (d0 : Dev nD) : Nat :=
  let c0_i32_1917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1916 : BitVec 32 := 1#32
  let v1399 : BitVec 32 := Scalar.muli v5 c1_i32_1916
  let v1400 : BitVec 32 := Scalar.addi c0_i32_1917 v1399
  v1400.toNat
def k0_off6 (d0 : Dev nD) (c0_i32_1976 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1437 : BitVec 32 := Scalar.subi v2 c0_i32_1976
  let c16_i32_1977 : BitVec 32 := 16#32
  let v1438 : BitVec 32 := Scalar.addi v1437 c16_i32_1977
  let c16_i32_1978 : BitVec 32 := 16#32
  let v1439 : BitVec 32 := Scalar.remsi v1438 c16_i32_1978
  let c256_i32_1985 : BitVec 32 := 256#32
  let v1444 : BitVec 32 := Scalar.muli v1439 c256_i32_1985
  let v1445 : Index := Scalar.indexCast v1444
  let c0_1986 : Index := 0#32
  ![v1445.toNat, 0]
def k0_off7 (d0 : Dev nD) (c0_i32_1979 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1440 : BitVec 32 := Scalar.addi v2 c0_i32_1979
  let c16_i32_1980 : BitVec 32 := 16#32
  let v1441 : BitVec 32 := Scalar.remsi v1440 c16_i32_1980
  let c256_i32_1991 : BitVec 32 := 256#32
  let v1449 : BitVec 32 := Scalar.muli v1441 c256_i32_1991
  let v1450 : Index := Scalar.indexCast v1449
  let c1024_1992 : Index := 1024#32
  ![v1450.toNat, 1024]
def k0_dev65 (d0 : Dev nD) : Nat :=
  let c0_i32_1995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1994 : BitVec 32 := 1#32
  let v1452 : BitVec 32 := Scalar.muli v5 c1_i32_1994
  let v1453 : BitVec 32 := Scalar.addi c0_i32_1995 v1452
  v1453.toNat
def k0_dev66 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1997 : BitVec 32 := 1#32
  let v1454 : BitVec 32 := Scalar.muli v7 c1_i32_1997
  let v1455 : BitVec 32 := Scalar.addi c0_i32_1998 v1454
  v1455.toNat
def k0_dev67 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2011 : BitVec 32 := 1#32
  let v1456 : BitVec 32 := Scalar.muli v7 c1_i32_2011
  let v1457 : BitVec 32 := Scalar.addi c0_i32_2012 v1456
  v1457.toNat
def k0_dev68 (d0 : Dev nD) : Nat :=
  let c0_i32_2026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2025 : BitVec 32 := 1#32
  let v1466 : BitVec 32 := Scalar.muli v5 c1_i32_2025
  let v1467 : BitVec 32 := Scalar.addi c0_i32_2026 v1466
  v1467.toNat
def k0_dev69 (d0 : Dev nD) : Nat :=
  let c0_i32_2104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2103 : BitVec 32 := 1#32
  let v1519 : BitVec 32 := Scalar.muli v5 c1_i32_2103
  let v1520 : BitVec 32 := Scalar.addi c0_i32_2104 v1519
  v1520.toNat
def k0_dev70 (d0 : Dev nD) : Nat :=
  let c0_i32_2107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2106 : BitVec 32 := 1#32
  let v1521 : BitVec 32 := Scalar.muli v7 c1_i32_2106
  let v1522 : BitVec 32 := Scalar.addi c0_i32_2107 v1521
  v1522.toNat
def k0_dev71 (d0 : Dev nD) : Nat :=
  let c0_i32_2121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2120 : BitVec 32 := 1#32
  let v1523 : BitVec 32 := Scalar.muli v7 c1_i32_2120
  let v1524 : BitVec 32 := Scalar.addi c0_i32_2121 v1523
  v1524.toNat
def k0_dev72 (d0 : Dev nD) : Nat :=
  let c0_i32_2135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2134 : BitVec 32 := 1#32
  let v1533 : BitVec 32 := Scalar.muli v5 c1_i32_2134
  let v1534 : BitVec 32 := Scalar.addi c0_i32_2135 v1533
  v1534.toNat
def k0_dev73 (d0 : Dev nD) : Nat :=
  let c0_i32_2213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2212 : BitVec 32 := 1#32
  let v1586 : BitVec 32 := Scalar.muli v5 c1_i32_2212
  let v1587 : BitVec 32 := Scalar.addi c0_i32_2213 v1586
  v1587.toNat
def k0_dev74 (d0 : Dev nD) : Nat :=
  let c0_i32_2216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2215 : BitVec 32 := 1#32
  let v1588 : BitVec 32 := Scalar.muli v7 c1_i32_2215
  let v1589 : BitVec 32 := Scalar.addi c0_i32_2216 v1588
  v1589.toNat
def k0_dev75 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2229 : BitVec 32 := 1#32
  let v1590 : BitVec 32 := Scalar.muli v7 c1_i32_2229
  let v1591 : BitVec 32 := Scalar.addi c0_i32_2230 v1590
  v1591.toNat
def k0_dev76 (d0 : Dev nD) : Nat :=
  let c0_i32_2244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2243 : BitVec 32 := 1#32
  let v1600 : BitVec 32 := Scalar.muli v5 c1_i32_2243
  let v1601 : BitVec 32 := Scalar.addi c0_i32_2244 v1600
  v1601.toNat
def k0_dev77 (d0 : Dev nD) : Nat :=
  let c0_i32_2322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2321 : BitVec 32 := 1#32
  let v1653 : BitVec 32 := Scalar.muli v5 c1_i32_2321
  let v1654 : BitVec 32 := Scalar.addi c0_i32_2322 v1653
  v1654.toNat
def k0_dev78 (d0 : Dev nD) : Nat :=
  let c0_i32_2325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2324 : BitVec 32 := 1#32
  let v1655 : BitVec 32 := Scalar.muli v7 c1_i32_2324
  let v1656 : BitVec 32 := Scalar.addi c0_i32_2325 v1655
  v1656.toNat
def k0_dev79 (d0 : Dev nD) : Nat :=
  let c0_i32_2339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2338 : BitVec 32 := 1#32
  let v1657 : BitVec 32 := Scalar.muli v7 c1_i32_2338
  let v1658 : BitVec 32 := Scalar.addi c0_i32_2339 v1657
  v1658.toNat
def k0_dev80 (d0 : Dev nD) : Nat :=
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2352 : BitVec 32 := 1#32
  let v1667 : BitVec 32 := Scalar.muli v5 c1_i32_2352
  let v1668 : BitVec 32 := Scalar.addi c0_i32_2353 v1667
  v1668.toNat
def k0_dev81 (d0 : Dev nD) : Nat :=
  let c0_i32_2431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2430 : BitVec 32 := 1#32
  let v1720 : BitVec 32 := Scalar.muli v5 c1_i32_2430
  let v1721 : BitVec 32 := Scalar.addi c0_i32_2431 v1720
  v1721.toNat
def k0_dev82 (d0 : Dev nD) : Nat :=
  let c0_i32_2434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2433 : BitVec 32 := 1#32
  let v1722 : BitVec 32 := Scalar.muli v7 c1_i32_2433
  let v1723 : BitVec 32 := Scalar.addi c0_i32_2434 v1722
  v1723.toNat
def k0_dev83 (d0 : Dev nD) : Nat :=
  let c0_i32_2448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2447 : BitVec 32 := 1#32
  let v1724 : BitVec 32 := Scalar.muli v7 c1_i32_2447
  let v1725 : BitVec 32 := Scalar.addi c0_i32_2448 v1724
  v1725.toNat
def k0_dev84 (d0 : Dev nD) : Nat :=
  let c0_i32_2462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2461 : BitVec 32 := 1#32
  let v1734 : BitVec 32 := Scalar.muli v5 c1_i32_2461
  let v1735 : BitVec 32 := Scalar.addi c0_i32_2462 v1734
  v1735.toNat
def k0_dev85 (d0 : Dev nD) : Nat :=
  let c0_i32_2540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2539 : BitVec 32 := 1#32
  let v1787 : BitVec 32 := Scalar.muli v5 c1_i32_2539
  let v1788 : BitVec 32 := Scalar.addi c0_i32_2540 v1787
  v1788.toNat
def k0_dev86 (d0 : Dev nD) : Nat :=
  let c0_i32_2543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2542 : BitVec 32 := 1#32
  let v1789 : BitVec 32 := Scalar.muli v7 c1_i32_2542
  let v1790 : BitVec 32 := Scalar.addi c0_i32_2543 v1789
  v1790.toNat
def k0_dev87 (d0 : Dev nD) : Nat :=
  let c0_i32_2557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2556 : BitVec 32 := 1#32
  let v1791 : BitVec 32 := Scalar.muli v7 c1_i32_2556
  let v1792 : BitVec 32 := Scalar.addi c0_i32_2557 v1791
  v1792.toNat
def k0_dev88 (d0 : Dev nD) : Nat :=
  let c0_i32_2571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2570 : BitVec 32 := 1#32
  let v1801 : BitVec 32 := Scalar.muli v5 c1_i32_2570
  let v1802 : BitVec 32 := Scalar.addi c0_i32_2571 v1801
  v1802.toNat
def k0_dev89 (d0 : Dev nD) : Nat :=
  let c0_i32_2649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2648 : BitVec 32 := 1#32
  let v1854 : BitVec 32 := Scalar.muli v5 c1_i32_2648
  let v1855 : BitVec 32 := Scalar.addi c0_i32_2649 v1854
  v1855.toNat
def k0_dev90 (d0 : Dev nD) : Nat :=
  let c0_i32_2652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2651 : BitVec 32 := 1#32
  let v1856 : BitVec 32 := Scalar.muli v7 c1_i32_2651
  let v1857 : BitVec 32 := Scalar.addi c0_i32_2652 v1856
  v1857.toNat
def k0_dev91 (d0 : Dev nD) : Nat :=
  let c0_i32_2666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2665 : BitVec 32 := 1#32
  let v1858 : BitVec 32 := Scalar.muli v7 c1_i32_2665
  let v1859 : BitVec 32 := Scalar.addi c0_i32_2666 v1858
  v1859.toNat
def k0_dev92 (d0 : Dev nD) : Nat :=
  let c0_i32_2680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2679 : BitVec 32 := 1#32
  let v1868 : BitVec 32 := Scalar.muli v5 c1_i32_2679
  let v1869 : BitVec 32 := Scalar.addi c0_i32_2680 v1868
  v1869.toNat
def k0_dev93 (d0 : Dev nD) : Nat :=
  let c0_i32_2758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2757 : BitVec 32 := 1#32
  let v1921 : BitVec 32 := Scalar.muli v5 c1_i32_2757
  let v1922 : BitVec 32 := Scalar.addi c0_i32_2758 v1921
  v1922.toNat
def k0_dev94 (d0 : Dev nD) : Nat :=
  let c0_i32_2761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2760 : BitVec 32 := 1#32
  let v1923 : BitVec 32 := Scalar.muli v7 c1_i32_2760
  let v1924 : BitVec 32 := Scalar.addi c0_i32_2761 v1923
  v1924.toNat
def k0_dev95 (d0 : Dev nD) : Nat :=
  let c0_i32_2775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2774 : BitVec 32 := 1#32
  let v1925 : BitVec 32 := Scalar.muli v7 c1_i32_2774
  let v1926 : BitVec 32 := Scalar.addi c0_i32_2775 v1925
  v1926.toNat
def k0_dev96 (d0 : Dev nD) : Nat :=
  let c0_i32_2789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2788 : BitVec 32 := 1#32
  let v1935 : BitVec 32 := Scalar.muli v5 c1_i32_2788
  let v1936 : BitVec 32 := Scalar.addi c0_i32_2789 v1935
  v1936.toNat
def k0_dev97 (d0 : Dev nD) : Nat :=
  let c0_i32_2867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2866 : BitVec 32 := 1#32
  let v1988 : BitVec 32 := Scalar.muli v5 c1_i32_2866
  let v1989 : BitVec 32 := Scalar.addi c0_i32_2867 v1988
  v1989.toNat
def k0_dev98 (d0 : Dev nD) : Nat :=
  let c0_i32_2870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2869 : BitVec 32 := 1#32
  let v1990 : BitVec 32 := Scalar.muli v7 c1_i32_2869
  let v1991 : BitVec 32 := Scalar.addi c0_i32_2870 v1990
  v1991.toNat
def k0_dev99 (d0 : Dev nD) : Nat :=
  let c0_i32_2884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2883 : BitVec 32 := 1#32
  let v1992 : BitVec 32 := Scalar.muli v7 c1_i32_2883
  let v1993 : BitVec 32 := Scalar.addi c0_i32_2884 v1992
  v1993.toNat
def k0_dev100 (d0 : Dev nD) : Nat :=
  let c0_i32_2898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2897 : BitVec 32 := 1#32
  let v2002 : BitVec 32 := Scalar.muli v5 c1_i32_2897
  let v2003 : BitVec 32 := Scalar.addi c0_i32_2898 v2002
  v2003.toNat
def k0_dev101 (d0 : Dev nD) : Nat :=
  let c0_i32_2976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2975 : BitVec 32 := 1#32
  let v2055 : BitVec 32 := Scalar.muli v5 c1_i32_2975
  let v2056 : BitVec 32 := Scalar.addi c0_i32_2976 v2055
  v2056.toNat
def k0_dev102 (d0 : Dev nD) : Nat :=
  let c0_i32_2979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2978 : BitVec 32 := 1#32
  let v2057 : BitVec 32 := Scalar.muli v7 c1_i32_2978
  let v2058 : BitVec 32 := Scalar.addi c0_i32_2979 v2057
  v2058.toNat
def k0_dev103 (d0 : Dev nD) : Nat :=
  let c0_i32_2993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2992 : BitVec 32 := 1#32
  let v2059 : BitVec 32 := Scalar.muli v7 c1_i32_2992
  let v2060 : BitVec 32 := Scalar.addi c0_i32_2993 v2059
  v2060.toNat
def k0_dev104 (d0 : Dev nD) : Nat :=
  let c0_i32_3007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3006 : BitVec 32 := 1#32
  let v2069 : BitVec 32 := Scalar.muli v5 c1_i32_3006
  let v2070 : BitVec 32 := Scalar.addi c0_i32_3007 v2069
  v2070.toNat
def k0_dev105 (d0 : Dev nD) : Nat :=
  let c0_i32_3085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3084 : BitVec 32 := 1#32
  let v2122 : BitVec 32 := Scalar.muli v5 c1_i32_3084
  let v2123 : BitVec 32 := Scalar.addi c0_i32_3085 v2122
  v2123.toNat
def k0_dev106 (d0 : Dev nD) : Nat :=
  let c0_i32_3088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3087 : BitVec 32 := 1#32
  let v2124 : BitVec 32 := Scalar.muli v7 c1_i32_3087
  let v2125 : BitVec 32 := Scalar.addi c0_i32_3088 v2124
  v2125.toNat
def k0_dev107 (d0 : Dev nD) : Nat :=
  let c0_i32_3102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3101 : BitVec 32 := 1#32
  let v2126 : BitVec 32 := Scalar.muli v7 c1_i32_3101
  let v2127 : BitVec 32 := Scalar.addi c0_i32_3102 v2126
  v2127.toNat
def k0_dev108 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3115 : BitVec 32 := 1#32
  let v2136 : BitVec 32 := Scalar.muli v5 c1_i32_3115
  let v2137 : BitVec 32 := Scalar.addi c0_i32_3116 v2136
  v2137.toNat
def k0_dev109 (d0 : Dev nD) : Nat :=
  let c0_i32_3194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3193 : BitVec 32 := 1#32
  let v2189 : BitVec 32 := Scalar.muli v5 c1_i32_3193
  let v2190 : BitVec 32 := Scalar.addi c0_i32_3194 v2189
  v2190.toNat
def k0_dev110 (d0 : Dev nD) : Nat :=
  let c0_i32_3197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3196 : BitVec 32 := 1#32
  let v2191 : BitVec 32 := Scalar.muli v7 c1_i32_3196
  let v2192 : BitVec 32 := Scalar.addi c0_i32_3197 v2191
  v2192.toNat
def k0_dev111 (d0 : Dev nD) : Nat :=
  let c0_i32_3211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3210 : BitVec 32 := 1#32
  let v2193 : BitVec 32 := Scalar.muli v7 c1_i32_3210
  let v2194 : BitVec 32 := Scalar.addi c0_i32_3211 v2193
  v2194.toNat
def k0_dev112 (d0 : Dev nD) : Nat :=
  let c0_i32_3225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3224 : BitVec 32 := 1#32
  let v2203 : BitVec 32 := Scalar.muli v5 c1_i32_3224
  let v2204 : BitVec 32 := Scalar.addi c0_i32_3225 v2203
  v2204.toNat
def k0_dev113 (d0 : Dev nD) : Nat :=
  let c0_i32_3303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3302 : BitVec 32 := 1#32
  let v2256 : BitVec 32 := Scalar.muli v5 c1_i32_3302
  let v2257 : BitVec 32 := Scalar.addi c0_i32_3303 v2256
  v2257.toNat
def k0_dev114 (d0 : Dev nD) : Nat :=
  let c0_i32_3306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3305 : BitVec 32 := 1#32
  let v2258 : BitVec 32 := Scalar.muli v7 c1_i32_3305
  let v2259 : BitVec 32 := Scalar.addi c0_i32_3306 v2258
  v2259.toNat
def k0_dev115 (d0 : Dev nD) : Nat :=
  let c0_i32_3320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3319 : BitVec 32 := 1#32
  let v2260 : BitVec 32 := Scalar.muli v7 c1_i32_3319
  let v2261 : BitVec 32 := Scalar.addi c0_i32_3320 v2260
  v2261.toNat
def k0_dev116 (d0 : Dev nD) : Nat :=
  let c0_i32_3334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3333 : BitVec 32 := 1#32
  let v2270 : BitVec 32 := Scalar.muli v5 c1_i32_3333
  let v2271 : BitVec 32 := Scalar.addi c0_i32_3334 v2270
  v2271.toNat
def k0_dev117 (d0 : Dev nD) : Nat :=
  let c0_i32_3412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3411 : BitVec 32 := 1#32
  let v2323 : BitVec 32 := Scalar.muli v5 c1_i32_3411
  let v2324 : BitVec 32 := Scalar.addi c0_i32_3412 v2323
  v2324.toNat
def k0_dev118 (d0 : Dev nD) : Nat :=
  let c0_i32_3415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3414 : BitVec 32 := 1#32
  let v2325 : BitVec 32 := Scalar.muli v7 c1_i32_3414
  let v2326 : BitVec 32 := Scalar.addi c0_i32_3415 v2325
  v2326.toNat
def k0_dev119 (d0 : Dev nD) : Nat :=
  let c0_i32_3429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3428 : BitVec 32 := 1#32
  let v2327 : BitVec 32 := Scalar.muli v7 c1_i32_3428
  let v2328 : BitVec 32 := Scalar.addi c0_i32_3429 v2327
  v2328.toNat
def k0_dev120 (d0 : Dev nD) : Nat :=
  let c0_i32_3443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3442 : BitVec 32 := 1#32
  let v2337 : BitVec 32 := Scalar.muli v5 c1_i32_3442
  let v2338 : BitVec 32 := Scalar.addi c0_i32_3443 v2337
  v2338.toNat
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Steps.lean ====
/-
# The kernel's body as thirty ring steps

The body of the kernel written step by step: an opening (the barrier, the scale, the two first products), then
thirty steps of one exchange in either direction. Each piece takes the program that follows it, so that the whole is
one chain of operations and the printed body is this chain by definitional unfolding.
-/
module

public import proofs.«01_k».proof.Proof.Gen.KernelIdeal.Skeleton
public import Idealize.ShloMosaic.Lib.Pipeline.Launch
public import Idealize.ShloMosaic.Lib.Tactic

@[expose] public section

set_option synthInstance.maxSize 4096

noncomputable section

namespace Cert.KernelIdeal.Ring

open Cert.KernelIdeal.Gen
open Idealize.ShloMosaic Idealize.ShloMosaic.TcCoe Idealize.SL.Sem

variable {F : FTy → Type} [FloatOps F]

/-! ## The memrefs and semaphores -/

abbrev xM : Memref sig .tc .vmem S4096x256 .fp8e4m3 := Memref.whole cc0_stg0_0
abbrev wM : Memref sig .tc .vmem S256x2048 .fp8e4m3 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x2048 .f32 := Memref.whole cc0_stg4_0
abbrev cM : Memref sig .tc .vmem S2x2x256x1024 .f32 := Memref.whole cc0_scratch0

theorem slot_inb : ∀ r k : Fin 2, ∀ d : Fin 4, (![r.val, k.val, 0, 0] : Fin 4 → ℕ) d + S1x1x256x1024.size d ≤ S2x2x256x1024.size d := by decide
theorem sem_inb : ∀ r k : Fin 2, ∀ d : Fin 2, (![r.val, k.val] : Fin 2 → ℕ) d + S1x1.size d ≤ S2x2.size d := by decide
theorem half_inb : ∀ r : Fin 2, ∀ d : Fin 2, (![0, 1024 * r.val] : Fin 2 → ℕ) d + S256x1024.size d ≤ S256x2048.size d := by decide

/-- Slot `k` of direction `r`, as the rectangle of the scratch buffer the stores and loads name. -/
def slotRect (r k : Fin 2) : Rect S2x2x256x1024 := Rect.unit (s := S2x2x256x1024) ![r.val, k.val, 0, 0] S1x1x256x1024.size (slot_inb r k)
/-- Slot `k` of direction `r`, as the 256 × 1024 block the copies move. -/
def slot (r k : Fin 2) : Memref sig .tc .vmem S256x1024 .f32 :=
  (cM.slice (Rect.unit (s := S2x2x256x1024) ![r.val, k.val, 0, 0] S1x1x256x1024.size (slot_inb r k)) (fun _ => rfl)).squeeze S256x1024 squeezes_S1x1x256x1024_S256x1024

/-- The semaphore counting the end of reading out of slot `k` of direction `r`. -/
def sendS (r k : Fin 2) : DmaSem sig := ((cc0_scratch1.slice (Rect.unit (s := S2x2) ![r.val, k.val] S1x1.size (sem_inb r k))).squeeze S_ squeezes_S1x1_S_).sem
/-- The semaphore counting what lands in slot `k` of direction `r`. -/
def recvS (r k : Fin 2) : DmaSem sig := ((cc0_scratch2.slice (Rect.unit (s := S2x2) ![r.val, k.val] S1x1.size (sem_inb r k))).squeeze S_ squeezes_S1x1_S_).sem
/-- The credit semaphore of direction `r`. -/
def credS : Fin 2 → Sem sig
  | 0 => cc0_scratch3.sem
  | 1 => cc0_scratch4.sem
abbrev barS : Sem sig := (SemArray.scalar (sig.barrier 0 rfl) : Sems sig S_).sem

/-- The slot step `s` sends out of, and the one it receives into. -/
def sS (s : ℕ) : Fin 2 := ⟨s % 2, Nat.mod_lt _ (by decide)⟩
def rS (s : ℕ) : Fin 2 := ⟨(s + 1) % 2, Nat.mod_lt _ (by decide)⟩

/-! ## The neighbours -/

def left (d : Dev nD) : Dev nD := ⟨k0_dev1 d, k0_dev1_lt d⟩
def right (d : Dev nD) : Dev nD := ⟨k0_dev2 d, k0_dev2_lt d⟩
/-- Direction `r` sends to `nxt r`. -/
def nxt : Fin 2 → Dev nD → Dev nD
  | 0 => right
  | 1 => left
/-- Direction `r` receives from `prv r`. -/
def prv : Fin 2 → Dev nD → Dev nD
  | 0 => left
  | 1 => right

/-! ## Where a step reads and writes -/

theorem off2_inb (d : Dev nD) (s : ℕ) (h : s < 15) : ∀ a, k0_off2 d (BitVec.ofNat 32 s) a + S256x256.size a ≤ S4096x256.size a := k0_off2_inb d ⟨s, h⟩
theorem off3_inb (d : Dev nD) (s : ℕ) (h : s < 15) : ∀ a, k0_off3 d (BitVec.ofNat 32 s) a + S256x256.size a ≤ S4096x256.size a := k0_off3_inb d ⟨s, h⟩
theorem off6_inb (d : Dev nD) (s : ℕ) (h : s < 15) : ∀ a, k0_off6 d (BitVec.ofNat 32 s) a + S256x1024.size a ≤ S4096x2048.size a := k0_off6_inb d ⟨s, h⟩
theorem off7_inb (d : Dev nD) (s : ℕ) (h : s < 15) : ∀ a, k0_off7 d (BitVec.ofNat 32 s) a + S256x1024.size a ≤ S4096x2048.size a := k0_off7_inb d ⟨s, h⟩

/-- The rows of `x` step `s` multiplies in direction `r`. -/
def xOff (d : Dev nD) (s : ℕ) : Fin 2 → Fin 2 → ℕ
  | 0 => k0_off2 d (BitVec.ofNat 32 s)
  | 1 => k0_off3 d (BitVec.ofNat 32 s)
theorem xOff_inb (d : Dev nD) (s : ℕ) (h : s < 15) : ∀ r, ∀ a, xOff d s r a + S256x256.size a ≤ S4096x256.size a
  | 0 => off2_inb d s h
  | 1 => off3_inb d s h
/-- The block of the result the last summing step finishes in direction `r`. -/
def fOff (d : Dev nD) : Fin 2 → Fin 2 → ℕ
  | 0 => k0_off4 d
  | 1 => k0_off5 d
theorem fOff_inb (d : Dev nD) : ∀ r, ∀ a, fOff d r a + S256x1024.size a ≤ S4096x2048.size a
  | 0 => k0_off4_inb d
  | 1 => k0_off5_inb d
/-- The block of the result gathering step `15 + j` writes in direction `r`. -/
def gOff (d : Dev nD) (j : ℕ) : Fin 2 → Fin 2 → ℕ
  | 0 => k0_off6 d (BitVec.ofNat 32 j)
  | 1 => k0_off7 d (BitVec.ofNat 32 j)
theorem gOff_inb (d : Dev nD) (j : ℕ) (h : j < 15) : ∀ r, ∀ a, gOff d j r a + S256x1024.size a ≤ S4096x2048.size a
  | 0 => off6_inb d j h
  | 1 => off7_inb d j h

/-! ## The pieces of the body -/

/-- A program of the kernel's body. -/
abbrev KProg (F : FTy → Type) : Type _ := Prog (TpuEff nD τ sig (Elt F) Λ₀ .tc) PUnit

/-- Take the credits step `s` needs: none at the first step. -/
def creditWait (s : ℕ) (k : KProg F) : KProg F :=
  bif Nat.ble 1 s then .op (.semWait (credS 0) ((1 : ℕ) : Int)) fun _ => .op (.semWait (credS 1) ((1 : ℕ) : Int)) fun _ => k else k

/-- Start the copy of step `s` in direction `r`. -/
def sendOp (r : Fin 2) (s : ℕ) (d : Dev nD) (k : KProg F) : KProg F :=
  .op (.enqueueDma (slot r (sS s)) (.remote (Dev.tc (nxt r d)) (slot r (rS s)) (.dma (sendS r (sS s)))) (.dma (recvS r (rS s)))
    ((View.wordExact_bits rfl).reshape _ _) ((View.wordExact_bits rfl).reshape _ _) ⟨⟨rfl, Or.inl rfl⟩, trivial⟩) fun _ => k

/-- Wait until the copy of step `s` in direction `r` is sent, and until the one from the other side has landed. -/
def drainOp (r : Fin 2) (s : ℕ) (k : KProg F) : KProg F :=
  .op (.waitDma2 (sendS r (sS s)) (slot r (rS s)) (slot r (sS s)) ((View.wordExact_bits rfl).reshape _ _) ((View.wordExact_bits rfl).reshape _ _)) fun _ =>
  .op (.waitDma2 (recvS r (rS s)) (slot r (sS s)) (slot r (rS s)) ((View.wordExact_bits rfl).reshape _ _) ((View.wordExact_bits rfl).reshape _ _)) fun _ => k

/-- Store `v` in slot `k` of direction `r`. -/
def putSlot (r k : Fin 2) (v : FVec F S1x1x256x1024 .f32) (K : KProg F) : KProg F :=
  .op (.load cM (slotRect r k).toLoadRect (View.loadsAt_vmem h_S1x1x256x1024)) fun _ =>
  .op (.store cM (slotRect r k) v Finset.univ (View.stores_vmem_bits_univ h_S1x1x256x1024 rfl) (.inl rfl)) fun _ => K

/-- Read slot `k` of direction `r`. -/
def getSlot (r k : Fin 2) (K : Vec F S1x1x256x1024 .f32 → KProg F) : KProg F :=
  .op (.load cM (slotRect r k).toLoadRect (View.loadsAt_vmem h_S1x1x256x1024)) K

/-- Read the factors: 256 rows of `x` and the half `r` of the columns of `w`. -/
def getFactors (r : Fin 2) (R : Fin 2 → ℕ) (hR : ∀ a, R a + S256x256.size a ≤ S4096x256.size a) (K : Vec F S256x256 .fp8e4m3 → Vec F S256x1024 .fp8e4m3 → KProg F) : KProg F :=
  .op (.load xM (Rect.unit (s := S4096x256) R S256x256.size hR).toLoadRect (View.loadsAt_vmem h_S256x256)) fun a =>
  .op (.load wM (Rect.unit (s := S256x2048) ![0, 1024 * r.val] S256x1024.size (half_inb r)).toLoadRect (View.loadsAt_vmem h_S256x1024)) fun b => K a b

/-- Store `v` in a block of the result. -/
def putOut (R : Fin 2 → ℕ) (hR : ∀ a, R a + S256x1024.size a ≤ S4096x2048.size a) (v : FVec F S256x1024 .f32) (K : KProg F) : KProg F :=
  .op (.load oM (Rect.unit (s := S4096x2048) R S256x1024.size hR).toLoadRect (View.loadsAt_vmem h_S256x1024)) fun _ =>
  .op (.store oM (Rect.unit (s := S4096x2048) R S256x1024.size hR) v Finset.univ (View.stores_vmem_bits_univ h_S256x1024 rfl) (.inl rfl)) fun _ => K

/-- The first product of direction `r`. -/
def firstOp (r : Fin 2) (d : Dev nD) (K : KProg F) : KProg F :=
  getFactors r (k0_off1 d) (k0_off1_inb d) fun a b => putSlot r 0 (k0_pay4 a b) K

/-- A summing step: the landed block plus the device's own product. -/
def sumOp (r : Fin 2) (s : ℕ) (h : s < 15) (d : Dev nD) (K : KProg F) : KProg F :=
  getSlot r (rS s) fun v => getFactors r (xOff d s r) (xOff_inb d s h r) fun a b => putSlot r (rS s) (k0_pay8 v a b) K

/-- The last summing step: the sum scaled and cut off at zero, into the result and back into the slot. -/
def finOp (r : Fin 2) (d : Dev nD) (sc : F .f32) (K : KProg F) : KProg F :=
  getSlot r (rS 14) fun v => getFactors r (xOff d 14 r) (xOff_inb d 14 (by decide) r) fun a b =>
    putOut (fOff d r) (fOff_inb d r) (k0_pay53 sc v a b) (putSlot r (rS 14) (k0_pay54 sc v a b) K)

/-- A gathering step: the landed block into the result. -/
def gatOp (r : Fin 2) (s : ℕ) (j : ℕ) (h : j < 15) (d : Dev nD) (K : KProg F) : KProg F :=
  getSlot r (rS s) fun v => putOut (gOff d j r) (gOff_inb d j h r) (k0_pay1 v) K

/-- What step `s` does with the blocks that landed. -/
def workOp (s : ℕ) (d : Dev nD) (sc : F .f32) (K : KProg F) : KProg F :=
  if h : s < 14 then sumOp 0 s (by omega) d (sumOp 1 s (by omega) d K)
  else if s = 14 then finOp 0 d sc (finOp 1 d sc K)
  else if h : s - 15 < 15 then gatOp 0 s (s - 15) h d (gatOp 1 s (s - 15) h d K)
  else K

/-- Give the credits after step `s`: none after the last step. -/
def creditSignal (s : ℕ) (d : Dev nD) (k : KProg F) : KProg F :=
  bif Nat.ble s 28 then .op (.semSignal (left d : Thread nD τ) (credS 0) ((1 : ℕ) : Int)) fun _ => .op (.semSignal (right d : Thread nD τ) (credS 1) ((1 : ℕ) : Int)) fun _ => k else k

/-- One step: an exchange in either direction, then the work on what landed. -/
def stepOp (s : ℕ) (d : Dev nD) (sc : F .f32) (K : KProg F) : KProg F :=
  creditWait s (sendOp 0 s d (sendOp 1 s d (drainOp 0 s (drainOp 1 s (workOp s d sc (creditSignal s d K))))))

/-- `n` steps from step `s` on. -/
def stepsOp (d : Dev nD) (sc : F .f32) : ℕ → ℕ → KProg F
  | 0, _ => .ret ⟨⟩
  | n + 1, s => stepOp s d sc (stepsOp d sc n (s + 1))

/-- The body: the barrier, the scale, the first products, the thirty steps. -/
def body : KProg F :=
  .op .deviceId fun d =>
  .op (.semSignal (left d : Thread nD τ) barS ((1 : ℕ) : Int)) fun _ =>
  .op (.semSignal (right d : Thread nD τ) barS ((1 : ℕ) : Int)) fun _ =>
  .op (.semWait barS ((2 : ℕ) : Int)) fun _ =>
  smemLoadElt sxM (Rect.unit (s := S1) ![0] S1.size inb_S1_S1_0) (View.loads_smem_one rfl numel1_S1) (Shape.Idx.first (numel1_S1.symm ▸ Nat.one_pos)) fun a =>
  smemLoadElt swM (Rect.unit (s := S1) ![0] S1.size inb_S1_S1_0) (View.loads_smem_one rfl numel1_S1) (Shape.Idx.first (numel1_S1.symm ▸ Nat.one_pos)) fun b =>
  firstOp 0 d (firstOp 1 d (stepsOp d (k0_pay3 a b) 30 0))

set_option maxRecDepth 65536 in
/-- The printed body is the thirty steps. -/
theorem body_eq : cc0_body (F := F) xM (Memref.isWhole_whole _) wM (Memref.isWhole_whole _) sxM (Memref.isWhole_whole _) swM (Memref.isWhole_whole _) oM (Memref.isWhole_whole _)
    cM (Memref.isWhole_whole _) cc0_scratch1 cc0_scratch2 cc0_scratch3 cc0_scratch4 = body := by
  rw [cc0_body_eq_skeleton]
  sl_kernel_rfl

end Cert.KernelIdeal.Ring

end
-- ==== Proof.Protocol.lean ====
/-
# Who waits for whom

The two rings of the kernel as rounds of its semaphores. Direction `r` sends from a device to `nxt r` of it and
receives from `prv r`. A device has eleven cells: the barrier, one credit a direction, one sending and one landing
semaphore a slot. Step `s` sends out of slot `sS s` and receives into slot `rS s`.

* barrier, one round, two units: neighbour `nxt d c` pays unit `d` and hands its empty slot `(d, 1)` to `c`.
* credit `r` of `c`, round `s < 29`: `nxt r c` pays one unit after its step `s`, and hands its slot `(r, sS s)`, out of
  which it has just sent: the slot `c` copies into in step `s + 1`.
* send `(r, k)` of `c`, round `j < 15`: the copy of step `2 j + k` gives the slot it reads back.
* landing `(r, k)` of `c`, round `j < 15`: the copy step `2 j + 1 - k` of `prv r c` started puts its sum `val r s` there.
-/
module

public import proofs.«01_k».proof.Proof.Steps
public import Mathlib.Algebra.BigOperators.Intervals
public import Mathlib.Tactic.Abel
public import Idealize.ShloMosaic.Lib.Rounds
public import Idealize.ShloMosaic.Lib.Pipeline.Kit

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The neighbours form a ring -/

theorem prv_nxt : ∀ (r : Fin 2) (c : Dev nD), prv r (nxt r c) = c := by decide +kernel
theorem nxt_prv : ∀ (r : Fin 2) (c : Dev nD), nxt r (prv r c) = c := by decide +kernel

/-- Direction `r` as a permutation of the devices. -/
def turn (r : Fin 2) : Dev nD ≃ Dev nD := ⟨nxt r, prv r, prv_nxt r, nxt_prv r⟩

theorem rS_succ (s : ℕ) : rS (s + 1) = sS s := by unfold rS sS; exact Fin.ext (by simp only []; omega)
theorem sS_succ (s : ℕ) : sS (s + 1) = rS s := rfl
theorem sS_ne_rS (s : ℕ) : sS s ≠ rS s := fun h => by have := congrArg Fin.val h; simp only [sS, rS] at this; omega

/-! ## The resources -/

/-- The pipeline's rounds beside the ring's. -/
abbrev UU : Type := UR sig nD τ × URounds (GSem nD τ sig) (Fin 2)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 2)) (MT nD τ sig ℕ (Elt F) ℕ UU ℕ) := embR

abbrev 𝒱₀ : Variants := Variants.none

/-! ## The cells -/

/-- The kinds of a device's cells. -/
inductive Kd where
  | bar
  | cred (r : Fin 2)
  | send (r k : Fin 2)
  | recv (r k : Fin 2)
  deriving DecidableEq

/-- The semaphore of a kind. -/
def semOf : Kd → SemLoc sig
  | .bar => .reg barS
  | .cred r => .reg (credS r)
  | .send r k => .dma (sendS r k)
  | .recv r k => .dma (recvS r k)

/-- The kind of a semaphore, by its number; the staging semaphores have none. -/
def kindOf : SemLoc sig → Option Kd
  | .reg i => if i.val = 0 then some (.cred 0) else if i.val = 1 then some (.cred 1) else some .bar
  | .dma i =>
    if i.val < 5 then none
    else if i.val < 9 then some (.send ⟨(i.val - 5) / 2 % 2, Nat.mod_lt _ (by decide)⟩ ⟨(i.val - 5) % 2, Nat.mod_lt _ (by decide)⟩)
    else some (.recv ⟨(i.val - 9) / 2 % 2, Nat.mod_lt _ (by decide)⟩ ⟨(i.val - 9) % 2, Nat.mod_lt _ (by decide)⟩)

theorem kindOf_bar : kindOf (.reg barS) = some .bar := by decide
theorem kindOf_cred : ∀ r, kindOf (.reg (credS r)) = some (.cred r) := by decide
theorem kindOf_send : ∀ r k, kindOf (.dma (sendS r k)) = some (.send r k) := by decide
theorem kindOf_recv : ∀ r k, kindOf (.dma (recvS r k)) = some (.recv r k) := by decide

theorem kindOf_semOf : ∀ k, kindOf (semOf k) = some k
  | .bar => kindOf_bar
  | .cred r => kindOf_cred r
  | .send r k => kindOf_send r k
  | .recv r k => kindOf_recv r k

theorem semOf_inj {k k' : Kd} (h : semOf k = semOf k') : k = k' :=
  Option.some.inj (by rw [← kindOf_semOf, ← kindOf_semOf, h])

/-- Cell `k` of device `c`. -/
abbrev cell (c : Dev nD) (k : Kd) : GSem nD τ sig := ((c : Thread nD τ), semOf k)
abbrev barCell (c : Dev nD) : GSem nD τ sig := ((c : Thread nD τ), .reg barS)
abbrev credCell (c : Dev nD) (r : Fin 2) : GSem nD τ sig := ((c : Thread nD τ), .reg (credS r))
abbrev sendCell (c : Dev nD) (r k : Fin 2) : GSem nD τ sig := ((c : Thread nD τ), .dma (sendS r k))
abbrev recvCell (c : Dev nD) (r k : Fin 2) : GSem nD τ sig := ((c : Thread nD τ), .dma (recvS r k))

theorem cell_inj {c c' : Dev nD} {k k' : Kd} (h : cell c k = cell c' k') : c = c' ∧ k = k' :=
  ⟨congrArg (fun g : GSem nD τ sig => g.1.1) h, semOf_inj (congrArg Prod.snd h)⟩

/-- What one block's copy is worth on a semaphore. -/
def N : ℕ := (slot 0 0).view.dmaCredit
theorem N_pos : 0 < N := View.dmaCredit_pos _ (by decide)
theorem N_slot (r k : Fin 2) : (slot r k).view.dmaCredit = N := rfl

/-! ## The blocks' contents -/

/-- What each device's four arguments hold. -/
structure Inp (F : FTy → Type) where
  x : Dev nD → (cc0_stg0_0 : Ref sig .tc).ty.Contents (Elt F)
  w : Dev nD → (cc0_stg1_0 : Ref sig .tc).ty.Contents (Elt F)
  a : Dev nD → (cc0_stg2_0 : Ref sig .tc).ty.Contents (Elt F)
  b : Dev nD → (cc0_stg3_0 : Ref sig .tc).ty.Contents (Elt F)

variable (I : Inp F)

/-- 256 rows of a device's `x`. -/
def xblk (c : Dev nD) (R : Fin 2 → ℕ) (hR : ∀ a, R a + S256x256.size a ≤ S4096x256.size a) : Vec F S256x256 .fp8e4m3 :=
  xM.view.readAt (Elt F) (Rect.unit (s := S4096x256) R S256x256.size hR).toLoadRect (I.x c)
/-- Half `r` of the columns of a device's `w`. -/
def wblk (c : Dev nD) (r : Fin 2) : Vec F S256x1024 .fp8e4m3 :=
  wM.view.readAt (Elt F) (Rect.unit (s := S256x2048) ![0, 1024 * r.val] S256x1024.size (half_inb r)).toLoadRect (I.w c)
/-- A device's scale. -/
def scale (c : Dev nD) : F .f32 :=
  k0_pay3 (sxM.view.readAt (Elt F) (Rect.unit (s := S1) ![0] S1.size inb_S1_S1_0).toLoadRect (I.a c) (Shape.Idx.first (numel1_S1.symm ▸ Nat.one_pos)))
    (swM.view.readAt (Elt F) (Rect.unit (s := S1) ![0] S1.size inb_S1_S1_0).toLoadRect (I.b c) (Shape.Idx.first (numel1_S1.symm ▸ Nat.one_pos)))

/-- What step `s` makes of the block that landed in direction `r`. -/
def upd (r : Fin 2) (s : ℕ) (c : Dev nD) (v : Vec F S1x1x256x1024 .f32) : Vec F S1x1x256x1024 .f32 :=
  if h : s < 14 then k0_pay8 v (xblk I c (xOff c s r) (xOff_inb c s (by omega) r)) (wblk I c r)
  else if s = 14 then k0_pay54 (scale I c) v (xblk I c (xOff c 14 r) (xOff_inb c 14 (by decide) r)) (wblk I c r)
  else v

/-- What device `c` sends in step `s` of direction `r`. -/
def val (r : Fin 2) : ℕ → Dev nD → Vec F S1x1x256x1024 .f32
  | 0, c => k0_pay4 (xblk I c (k0_off1 c) (k0_off1_inb c)) (wblk I c r)
  | s + 1, c => upd I r s c (val r s (prv r c))

/-- Slot `(r, k)` of device `c`, holding `f`. -/
def slotPts (c : Dev nD) (r k : Fin 2) (f : Buf (Elt F) ((slot r k).view.loc (c : Thread nD τ))) : sProp 𝕄 :=
  (slot r k).view.loc (c : Thread nD τ) ↦[(slot r k).view.set]{fullShare} f

/-- Slot `(r, k)` of device `c`, holding anything. -/
def slotAny (c : Dev nD) (r k : Fin 2) : sProp 𝕄 := iprop(∃ f, slotPts c r k f)

/-- Slot `(r, k)` of device `c`, holding the block `v`. -/
def slotHas (c : Dev nD) (r k : Fin 2) (v : Vec F S1x1x256x1024 .f32) : sProp 𝕄 :=
  iprop(∃ f : {f : Buf (Elt F) ((slot r k).view.loc (c : Thread nD τ)) // (cM.access (slotRect r k)).read (Elt F) f = v}, slotPts c r k f.1)

omit [FloatOps F] in
instance slotPts_storable (c : Dev nD) (r k : Fin 2) (f) : BI.Storable (upEmb : UEmb _ 𝕄) (slotPts (F := F) c r k f) := by unfold slotPts; infer_instance
omit [FloatOps F] in
instance slotAny_storable (c : Dev nD) (r k : Fin 2) : BI.Storable (upEmb : UEmb _ 𝕄) (slotAny (F := F) c r k) := by unfold slotAny; infer_instance
omit [FloatOps F] in
instance slotHas_storable (c : Dev nD) (r k : Fin 2) (v) : BI.Storable (upEmb : UEmb _ 𝕄) (slotHas (F := F) c r k v) := by unfold slotHas; infer_instance

omit [FloatOps F] in
theorem slotHas_any (c : Dev nD) (r k : Fin 2) (v : Vec F S1x1x256x1024 .f32) : slotHas c r k v ⊢ slotAny c r k := by
  unfold slotHas slotAny
  iintro ⟨%f, H⟩
  iexists f.1; iexact H

omit [FloatOps F] in
theorem slot_set (r k : Fin 2) : (slot r k).view.set = (cM.access (slotRect r k)).set := View.set_reshape _ _

/-! ## The schedule -/

/-- What `nxt d c`'s barrier unit hands `c`. -/
def barPay (c : Dev nD) (d : Fin 2) : sProp 𝕄 := iprop(slotAny (nxt d c) d (rS 0) ∗ reached ER (recvCell (nxt d c) d (rS 0)) 0)
/-- What `nxt r c`'s credit after step `s` hands `c`. -/
def credPay (c : Dev nD) (r : Fin 2) (s : ℕ) : sProp 𝕄 := iprop(slotAny (nxt r c) r (rS (s + 1)) ∗ reached ER (recvCell (nxt r c) r (rS (s + 1))) ((s + 1) / 2))
/-- What a landing in step `s` hands `c`: the block, and that the sender is ready for the credit of step `s`. -/
def landPay (c : Dev nD) (r k : Fin 2) (s : ℕ) : sProp 𝕄 := iprop(slotHas c r k (val I r s (prv r c)) ∗ reached ER (credCell (prv r c) r) s)

omit [FloatOps F] in
instance barPay_storable (c : Dev nD) (d : Fin 2) : BI.Storable (upEmb : UEmb _ 𝕄) (barPay (F := F) c d) := by unfold barPay; infer_instance
omit [FloatOps F] in
instance credPay_storable (c : Dev nD) (r : Fin 2) (s : ℕ) : BI.Storable (upEmb : UEmb _ 𝕄) (credPay (F := F) c r s) := by unfold credPay; infer_instance
instance landPay_storable (c : Dev nD) (r k : Fin 2) (s : ℕ) : BI.Storable (upEmb : UEmb _ 𝕄) (landPay I c r k s) := by unfold landPay; infer_instance

/-- The duties of a kind's round. -/
def dutiesOf : Option Kd → ℕ → Finset (Fin 2)
  | none, _ => ∅
  | some .bar, j => if j = 0 then Finset.univ else ∅
  | some (.cred _), j => if j < 29 then {0} else ∅
  | some (.send _ _), j => if j < 15 then {0} else ∅
  | some (.recv _ _), j => if j < 15 then {0} else ∅

/-- The worth of one duty. -/
def amountOf : Option Kd → ℕ
  | some (.send _ _) => N
  | some (.recv _ _) => N
  | _ => 1

/-- What a duty hands the cell's device. -/
def payOf (c : Dev nD) : Option Kd → ℕ → Fin 2 → sProp 𝕄
  | none, _, _ => iprop(emp)
  | some .bar, _, d => barPay c d
  | some (.cred r), s, _ => credPay c r s
  | some (.send r k), _, _ => slotAny c r k
  | some (.recv r k), j, _ => landPay I c r k (2 * j + (1 - k.val))

instance payOf_storable (c : Dev nD) (k : Option Kd) (j : ℕ) (d : Fin 2) : BI.Storable (upEmb : UEmb _ 𝕄) (payOf I c k j d) := by
  rcases k with _ | (_ | _ | _ | _) <;> unfold payOf <;> infer_instance

/-- The rounds of the ring. -/
def ringRd : Rounds.Schedule (GSem nD τ sig) (Fin 2) 𝕄 where
  duties g j := dutiesOf (kindOf g.2) j
  unitless _ := False
  amount g _ _ := amountOf (kindOf g.2)
  payload g j d := payOf I g.1.1 (kindOf g.2) j d
  amount_pos g _ _ _ := by
    rcases kindOf g.2 with _ | (_ | _ | _ | _) <;> unfold amountOf <;> first | exact Nat.one_pos | exact N_pos

instance ringRd_storable (g : GSem nD τ sig) (j : ℕ) (d : Fin 2) : BI.Storable (upEmb : UEmb _ 𝕄) ((ringRd I).payload g j d) := payOf_storable I _ _ _ _

section Sched
variable (c : Dev nD)

theorem duties_bar : (ringRd I).duties (barCell c) 0 = Finset.univ := by dsimp only [ringRd]; rw [kindOf_bar]; rfl
theorem duties_cred (r : Fin 2) (s : ℕ) (h : s < 29) : (ringRd I).duties (credCell c r) s = {0} := by dsimp only [ringRd]; rw [kindOf_cred]; exact if_pos h
theorem duties_send (r k : Fin 2) (j : ℕ) (h : j < 15) : (ringRd I).duties (sendCell c r k) j = {0} := by dsimp only [ringRd]; rw [kindOf_send]; exact if_pos h
theorem duties_recv (r k : Fin 2) (j : ℕ) (h : j < 15) : (ringRd I).duties (recvCell c r k) j = {0} := by dsimp only [ringRd]; rw [kindOf_recv]; exact if_pos h

theorem duties_bar_end : ∀ j, 1 ≤ j → (ringRd I).duties (barCell c) j = ∅ := fun j h => by dsimp only [ringRd]; rw [kindOf_bar]; exact if_neg (by omega)
theorem duties_cred_end (r : Fin 2) : ∀ j, 29 ≤ j → (ringRd I).duties (credCell c r) j = ∅ := fun j h => by dsimp only [ringRd]; rw [kindOf_cred]; exact if_neg (by omega)
theorem duties_send_end (r k : Fin 2) : ∀ j, 15 ≤ j → (ringRd I).duties (sendCell c r k) j = ∅ := fun j h => by dsimp only [ringRd]; rw [kindOf_send]; exact if_neg (by omega)
theorem duties_recv_end (r k : Fin 2) : ∀ j, 15 ≤ j → (ringRd I).duties (recvCell c r k) j = ∅ := fun j h => by dsimp only [ringRd]; rw [kindOf_recv]; exact if_neg (by omega)

theorem amount_bar (j : ℕ) (d : Fin 2) : (ringRd I).amount (barCell c) j d = 1 := by dsimp only [ringRd]; rw [kindOf_bar]; rfl
theorem amount_cred (r : Fin 2) (j : ℕ) (d : Fin 2) : (ringRd I).amount (credCell c r) j d = 1 := by dsimp only [ringRd]; rw [kindOf_cred]; rfl
theorem amount_send (r k : Fin 2) (j : ℕ) (d : Fin 2) : (ringRd I).amount (sendCell c r k) j d = N := by dsimp only [ringRd]; rw [kindOf_send]; rfl
theorem amount_recv (r k : Fin 2) (j : ℕ) (d : Fin 2) : (ringRd I).amount (recvCell c r k) j d = N := by dsimp only [ringRd]; rw [kindOf_recv]; rfl

theorem payload_bar (j : ℕ) (d : Fin 2) : (ringRd I).payload (barCell c) j d = barPay c d := by dsimp only [ringRd]; rw [kindOf_bar]; rfl
theorem payload_cred (r : Fin 2) (j : ℕ) (d : Fin 2) : (ringRd I).payload (credCell c r) j d = credPay c r j := by dsimp only [ringRd]; rw [kindOf_cred]; rfl
theorem payload_send (r k : Fin 2) (j : ℕ) (d : Fin 2) : (ringRd I).payload (sendCell c r k) j d = slotAny c r k := by dsimp only [ringRd]; rw [kindOf_send]; rfl
theorem payload_recv (r k : Fin 2) (j : ℕ) (d : Fin 2) : (ringRd I).payload (recvCell c r k) j d = landPay I c r k (2 * j + (1 - k.val)) := by dsimp only [ringRd]; rw [kindOf_recv]; rfl

/-- The landing of step `s` is in round `s / 2` of its cell. -/
theorem payload_land (r : Fin 2) (s : ℕ) (d : Fin 2) : (ringRd I).payload (recvCell c r (rS s)) (s / 2) d = landPay I c r (rS s) s := by
  rw [payload_recv]
  congr 1
  show 2 * (s / 2) + (1 - (s + 1) % 2) = s
  omega

theorem expect_bar : (ringRd I).expect (barCell c) 0 = 2 := by
  unfold Schedule.expect Schedule.amountOf; rw [duties_bar, Fin.sum_univ_two, amount_bar, amount_bar]
theorem expect_cred (r : Fin 2) (s : ℕ) (h : s < 29) : (ringRd I).expect (credCell c r) s = 1 := by
  unfold Schedule.expect Schedule.amountOf; rw [duties_cred I c r s h, Finset.sum_singleton, amount_cred]
theorem expect_send (r k : Fin 2) (j : ℕ) (h : j < 15) : (ringRd I).expect (sendCell c r k) j = N := by
  unfold Schedule.expect Schedule.amountOf; rw [duties_send I c r k j h, Finset.sum_singleton, amount_send]
theorem expect_recv (r k : Fin 2) (j : ℕ) (h : j < 15) : (ringRd I).expect (recvCell c r k) j = N := by
  unfold Schedule.expect Schedule.amountOf; rw [duties_recv I c r k j h, Finset.sum_singleton, amount_recv]

theorem rest_bar : bigSep ((ringRd I).duties (barCell c) 0 \ ∅) (fun d => (ringRd I).payload (barCell c) 0 d) = iprop(barPay c 0 ∗ barPay c 1) := by
  rw [Finset.sdiff_empty, duties_bar, bigSep_univ_two, payload_bar, payload_bar]
theorem rest_cred (r : Fin 2) (s : ℕ) (h : s < 29) : bigSep ((ringRd I).duties (credCell c r) s \ ∅) (fun d => (ringRd I).payload (credCell c r) s d) = credPay c r s := by
  rw [Finset.sdiff_empty, duties_cred I c r s h, bigSep_singleton, payload_cred]
theorem rest_send (r k : Fin 2) (j : ℕ) (h : j < 15) : bigSep ((ringRd I).duties (sendCell c r k) j \ ∅) (fun d => (ringRd I).payload (sendCell c r k) j d) = slotAny c r k := by
  rw [Finset.sdiff_empty, duties_send I c r k j h, bigSep_singleton, payload_send]
theorem rest_land (r : Fin 2) (s : ℕ) (h : s < 30) : bigSep ((ringRd I).duties (recvCell c r (rS s)) (s / 2) \ ∅) (fun d => (ringRd I).payload (recvCell c r (rS s)) (s / 2) d) = landPay I c r (rS s) s := by
  rw [Finset.sdiff_empty, duties_recv I c r _ _ (by omega), bigSep_singleton, payload_land]

end Sched

/-! ## Levels -/

/-- The indices of a cell: the steps. -/
def L (g : GSem nD τ sig) : Finset ℕ := if g.1.2 = .tc then Finset.range 30 else ∅

def lvOf : Option Kd → ℕ → ℕ
  | some .bar, _ => 1
  | some (.cred _), s => 2 * s + 3
  | some (.recv _ _), s => 2 * s + 2
  | _, _ => 0

/-- How late a cell is waited for: the barrier, then landing and credit of each step in turn. -/
def lv (g : GSem nD τ sig) (s : ℕ) : ℕ := lvOf (kindOf g.2) s

theorem L_of_ne (g : GSem nD τ sig) (h : g.1.2 ≠ .tc) : L g = ∅ := if_neg h
theorem L_tc (c : Dev nD) (sm : SemLoc sig) : L ((c : Thread nD τ), sm) = Finset.range 30 := if_pos rfl
theorem lv_bar (c : Dev nD) (s : ℕ) : lv (barCell c) s = 1 := by unfold lv; rw [kindOf_bar]; rfl
theorem lv_cred (c : Dev nD) (r : Fin 2) (s : ℕ) : lv (credCell c r) s = 2 * s + 3 := by unfold lv; rw [kindOf_cred]; rfl
theorem lv_send (c : Dev nD) (r k : Fin 2) (s : ℕ) : lv (sendCell c r k) s = 0 := by unfold lv; rw [kindOf_send]; rfl
theorem lv_recv (c : Dev nD) (r k : Fin 2) (s : ℕ) : lv (recvCell c r k) s = 2 * s + 2 := by unfold lv; rw [kindOf_recv]; rfl

/-- Everything owed is to be paid above level `n`. -/
def Above (n : ℕ) (D : CellTallies nD τ sig ℕ) : Prop := ∀ g ι, 0 < D g ι → ι ∈ L g ∧ n < lv g ι

theorem Above.zero (n : ℕ) : Above n 0 := fun g ι h => absurd h (Nat.lt_irrefl 0)
theorem Above.add {n : ℕ} {A B : CellTallies nD τ sig ℕ} (hA : Above n A) (hB : Above n B) : Above n (A + B) := fun g ι h => by
  rw [Pi.add_apply, Finsupp.add_apply] at h
  rcases Nat.eq_zero_or_pos (A g ι) with h0 | h0
  · exact hB g ι (by omega)
  · exact hA g ι h0
theorem Above.mono {n n' : ℕ} {A : CellTallies nD τ sig ℕ} (hA : Above n A) (h : n' ≤ n) : Above n' A := fun g ι hg => ⟨(hA g ι hg).1, lt_of_le_of_lt h (hA g ι hg).2⟩
theorem Above.at {n : ℕ} {c : Dev nD} {sm : SemLoc sig} {ι k : ℕ} (hι : ι < 30) (h : n < lv ((c : Thread nD τ), sm) ι) : Above n (tallyAt ((c : Thread nD τ), sm) ι k) := fun g ι' hg => by
  rw [tallyAt_apply] at hg
  by_cases hh : g = ((c : Thread nD τ), sm) ∧ ι' = ι
  · rw [hh.1, hh.2]; exact ⟨by rw [L_tc]; exact Finset.mem_range.mpr hι, h⟩
  · rw [if_neg hh] at hg; exact absurd hg (Nat.lt_irrefl 0)
theorem Above.sum {n : ℕ} {α : Type} [DecidableEq α] (S : Finset α) (A : α → CellTallies nD τ sig ℕ) (h : ∀ i ∈ S, Above n (A i)) : Above n (∑ i ∈ S, A i) := by
  induction S using Finset.induction_on with
  | empty => rw [Finset.sum_empty]; exact Above.zero n
  | insert i S hi ih =>
    rw [Finset.sum_insert hi]
    exact (h i (Finset.mem_insert_self _ _)).add (ih fun j hj => h j (Finset.mem_insert_of_mem hj))

omit [FloatOps F] in
theorem mayWait (c : Dev nD) (sm : SemLoc sig) (ι : ℕ) (hι : ι < 30) {O : CellTallies nD τ sig ℕ} (hO : Above (lv ((c : Thread nD τ), sm) ι) O) :
    (levAts L lv : sProp 𝕄) ⊢ MayWait (c : Thread nD τ) sm ι O :=
  MayOwe.of_cut (L := L) (lev := lv) (lv ((c : Thread nD τ), sm) ι)
    (fun p hp => by rw [Finset.mem_singleton.mp hp, L_tc]; exact Finset.mem_range.mpr hι)
    (fun g u hg => (hO g u hg).1)
    (fun p hp => by rw [Finset.mem_singleton.mp hp])
    (fun g u hg => (hO g u hg).2)

/-! ## What a device owes -/

/-- What step `t` pays in direction `r`: a landing next door, and a credit behind. -/
def Olnd (r : Fin 2) (c : Dev nD) (t : ℕ) : CellTallies nD τ sig ℕ := tallyAt (recvCell (nxt r c) r (rS t)) t N
def Ocrd (r : Fin 2) (c : Dev nD) (t : ℕ) : CellTallies nD τ sig ℕ := if t < 29 then tallyAt (credCell (prv r c) r) t 1 else 0

/-- What the steps from `s` on pay. -/
def Oat (c : Dev nD) (s : ℕ) : CellTallies nD τ sig ℕ := ∑ t ∈ Finset.Ico s 30, ((Ocrd 0 c t + Ocrd 1 c t) + Olnd 1 c t + Olnd 0 c t)

theorem Oat_step (c : Dev nD) (s : ℕ) (h : s < 30) : Oat c s = (Oat c (s + 1) + (Ocrd 0 c s + Ocrd 1 c s)) + Olnd 1 c s + Olnd 0 c s := by
  unfold Oat
  rw [Finset.sum_eq_sum_Ico_succ_bot h]
  abel
theorem Oat_end (c : Dev nD) : Oat c 30 = 0 := by unfold Oat; rw [Finset.Ico_self, Finset.sum_empty]

theorem above_Ocrd (r : Fin 2) (c : Dev nD) (t n : ℕ) (h : n < 2 * t + 3) : Above n (Ocrd r c t) := by
  unfold Ocrd
  split
  · exact Above.at (by omega) (by rw [lv_cred]; exact h)
  · exact Above.zero n
theorem above_Olnd (r : Fin 2) (c : Dev nD) (t n : ℕ) (ht : t < 30) (h : n < 2 * t + 2) : Above n (Olnd r c t) := Above.at ht (by rw [lv_recv]; exact h)
theorem above_Oat (c : Dev nD) (s n : ℕ) (h : n < 2 * s + 2) : Above n (Oat c s) :=
  Above.sum _ _ fun t ht => by
    rw [Finset.mem_Ico] at ht
    exact (((above_Ocrd 0 c t n (by omega)).add (above_Ocrd 1 c t n (by omega))).add (above_Olnd 1 c t n ht.2 (by omega))).add (above_Olnd 0 c t n ht.2 (by omega))

/-- What a device owes at launch: the barrier's units at its neighbours, and all its steps. -/
def O₀ (c : Dev nD) : CellTallies nD τ sig ℕ := (Oat c 0 + tallyAt (barCell (right c)) 0 1) + tallyAt (barCell (left c)) 0 1

theorem above_O₀ (c : Dev nD) : Above 0 (O₀ c) :=
  ((above_Oat c 0 0 (by decide)).add (Above.at (by decide) (by rw [lv_bar]; decide))).add (Above.at (by decide) (by rw [lv_bar]; decide))

end Cert.KernelIdeal.Ring

end
-- ==== Proof.Exchange.lean ====
/-
# The operations of one step that talk to the neighbours

One lemma for each: taking a credit, starting a copy, waiting for the two ends of a copy, giving a credit. Each says
what the operation takes from the device and what the program that follows it has.
-/
module

public import proofs.«01_k».proof.Proof.Protocol

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## What every device may use again and again -/

instance : Fintype Kd where
  elems := {.bar, .cred 0, .cred 1, .send 0 0, .send 0 1, .send 1 0, .send 1 1, .recv 0 0, .recv 0 1, .recv 1 0, .recv 1 1}
  complete := by
    intro k
    rcases k with _ | r | ⟨r, k⟩ | ⟨r, k⟩
    · decide
    · revert r; decide
    · revert r k; decide
    · revert r k; decide

/-- The cells' invariants, that every cell stands at its first round at least, and the levels. -/
def shared (κ : Dev nD × Kd → ℕ) : sProp 𝕄 :=
  iprop((bigSep Finset.univ fun x : Dev nD × Kd => cellInv ER (ringRd I) (κ x) (cell x.1 x.2))
    ∗ (bigSep Finset.univ fun x : Dev nD × Kd => reached ER (cell x.1 x.2) 0) ∗ levAts L lv)

instance shared_persistent (κ : Dev nD × Kd → ℕ) : BI.Persistent (shared I κ) := by unfold shared; infer_instance

theorem shared_inv (κ : Dev nD × Kd → ℕ) (c : Dev nD) (k : Kd) : shared I κ ⊢ cellInv ER (ringRd I) (κ (c, k)) (cell c k) := by
  have h : (bigSep Finset.univ fun x : Dev nD × Kd => cellInv ER (ringRd I) (κ x) (cell x.1 x.2)) ⊢ cellInv ER (ringRd I) (κ (c, k)) (cell c k) :=
    bigSep_elim (Finset.mem_univ ((c, k) : Dev nD × Kd))
  unfold shared
  iintro ⟨H, -, -⟩
  iapply h $$ H
theorem shared_reached (κ : Dev nD × Kd → ℕ) (c : Dev nD) (k : Kd) : shared I κ ⊢ reached ER (cell c k) 0 := by
  have h : (bigSep Finset.univ fun x : Dev nD × Kd => (reached ER (cell x.1 x.2) 0 : sProp 𝕄)) ⊢ reached ER (cell c k) 0 :=
    bigSep_elim (Finset.mem_univ ((c, k) : Dev nD × Kd))
  unfold shared
  iintro ⟨-, H, -⟩
  iapply h $$ H
theorem shared_mayWait (κ : Dev nD × Kd → ℕ) (c : Dev nD) (sm : SemLoc sig) (ι : ℕ) (hι : ι < 30) {O : CellTallies nD τ sig ℕ} (hO : Above (lv ((c : Thread nD τ), sm) ι) O) :
    shared I κ ⊢ MayWait (c : Thread nD τ) sm ι O := by
  unfold shared
  iintro ⟨-, -, H⟩
  iapply (mayWait c sm ι hι hO) $$ H

/-- The program `p` on device `c`, to end with `Q`. -/
abbrev wpc (c : Dev nD) (p : KProg F) (Q : PUnit → sProp (MT nD τ sig ℕ (Elt F) ℕ UU ℕ)) : sProp 𝕄 := wp frame (wpE (defs₀ (F := F)) 𝒱₀ (c : Thread nD τ) none) Set.univ p Q

/-- Device `c` owes `O`. -/
def owe (c : Dev nD) (O : CellTallies nD τ sig ℕ) : sProp 𝕄 := iprop(∃ W, owes (c : Thread nD τ) O W)

/-- Cell `g` stands at the start of round `j`. -/
def posAt (g : GSem nD τ sig) (j : ℕ) : sProp 𝕄 := iprop(atPos ER g j ∅ 0 ∗ reached ER g j)

/-- What step `s` needs to copy into its neighbour's slot. -/
def aim (r : Fin 2) (s : ℕ) (c : Dev nD) : sProp 𝕄 :=
  iprop(slotAny (nxt r c) r (rS s) ∗ reached ER (recvCell (nxt r c) r (rS s)) (s / 2) ∗ reached ER (credCell c r) s)

variable (κ : Dev nD × Kd → ℕ) (c : Dev nD) (Q : PUnit → sProp (MT nD τ sig ℕ (Elt F) ℕ UU ℕ))

/-! ## Taking a credit -/

theorem wp_credit (r : Fin 2) (s : ℕ) (h1 : 1 ≤ s) (h30 : s < 30) (O : CellTallies nD τ sig ℕ) (hO : Above (2 * s + 1) O) (k : KProg F) :
    iprop(shared I κ ∗ owe c O ∗ atPos ER (credCell c r) (s - 1) ∅ 0 ∗ cred (tallyAt (credCell c r) (s - 1) 1)
        ∗ ((owe c O ∗ atPos ER (credCell c r) s ∅ 0 ∗ aim r s c) -∗ wpc c k Q))
      ⊢ wpc c (.op (.semWait (credS r) ((1 : ℕ) : Int)) fun _ => k) Q := by
  have hMW : Above (lv (credCell c r) (s - 1)) O := by rw [lv_cred]; exact hO.mono (by omega)
  have hE := expect_cred I c r (s - 1) (by omega)
  unfold owe
  iintro ⟨#Hsh, ⟨%W, HO⟩, Hat, Hc, Hk⟩
  iapply (Rounds.wp_wait_rest_token 𝒱₀ ER (ringRd I) (c : Thread nD τ) none (κ := κ (c, .cred r))
      (wpE_semWait_eq 𝒱₀ (c : Thread nD τ) none Set.univ) (Set.mem_univ _) (s - 1) (O := O) (W := W) (R := s - 1) (m := 0) (T := ∅)
      (by rw [hE])) $$ [Hc HO Hat]
  · isplitr; · iapply (shared_inv I κ c (.cred r)); iexact Hsh
    isplitl [Hc]; · iexact Hc
    isplitl [HO]; · iexact HO
    isplitr
    · iapply (shared_mayWait I κ c (.reg (credS r)) (s - 1) (by omega) (O := O) hMW); iexact Hsh
    iexact Hat
  rw [rest_cred I c r (s - 1) (by omega), Nat.sub_add_cancel h1]
  iintro ⟨HO, Hat, #Hr, Hpay⟩
  iapply Hk
  isplitl [HO]; · iexists _; iexact HO
  isplitl [Hat]; · iexact Hat
  unfold credPay aim
  rw [Nat.sub_add_cancel h1]
  icases Hpay with ⟨Hs, Hrv⟩
  isplitl [Hs]; · iexact Hs
  isplitl [Hrv]; · iexact Hrv
  iexact Hr

/-! ## Starting a copy -/

omit [FloatOps F] in
/-- What a copy leaves in the slot it writes is what the slot it reads holds. -/
theorem read_copied (r k k' : Fin 2) (fs fd : (cc0_scratch0 : Ref sig .tc).ty.Contents (Elt F)) :
    (cM.access (slotRect r k')).read (Elt F) ((slot r k').view.write (Elt F) fd ((slot r k).view.read (Elt F) fs) Finset.univ)
      = (cM.access (slotRect r k)).read (Elt F) fs := by
  have e : (slot r k').view.write (Elt F) fd ((slot r k).view.read (Elt F) fs) Finset.univ = _ :=
    View.write_reshape_univ (v := (cM.access (slotRect r k'))) squeezes_S1x1x256x1024_S256x1024.numel_eq fd ((slot r k).view.read (Elt F) fs)
  rw [e, View.read_write_univ]
  funext x
  show (cM.access (slotRect r k)).read (Elt F) fs (Shape.reshapeEquiv _ ((Shape.reshapeEquiv _).symm x)) = _
  exact congrArg ((cM.access (slotRect r k)).read (Elt F) fs) (Equiv.apply_symm_apply _ x)

theorem wp_send (r : Fin 2) (s : ℕ) (h30 : s < 30) (O : CellTallies nD τ sig ℕ) (v : Vec F S1x1x256x1024 .f32) (hv : val I r s c = v) (k : KProg F) :
    iprop(shared I κ ∗ slotHas c r (sS s) v ∗ aim r s c ∗ owe c (O + Olnd r c s)
        ∗ dutyTok ER (sendCell c r (sS s)) (s / 2) 0 ∗ reached ER (sendCell c r (sS s)) (s / 2) ∗ dutyTok ER (recvCell (nxt r c) r (rS s)) (s / 2) 0
        ∗ ((cred (tallyAt (sendCell c r (sS s)) 0 N) ∗ owe c O) -∗ wpc c k Q))
      ⊢ wpc c (sendOp r s c k) Q := by
  have hj : s / 2 < 15 := by omega
  have hds : (0 : Fin 2) ∈ (ringRd I).duties (sendCell c r (sS s)) (s / 2) := by rw [duties_send I c r _ _ hj]; exact Finset.mem_singleton_self _
  have hdv : (0 : Fin 2) ∈ (ringRd I).duties (recvCell (nxt r c) r (rS s)) (s / 2) := by rw [duties_recv I (nxt r c) r _ _ hj]; exact Finset.mem_singleton_self _
  unfold owe aim slotAny slotHas sendOp
  iintro ⟨#Hsh, ⟨%fs, Hsrc⟩, ⟨⟨%fd, Hdst⟩, Hrv, Hrc⟩, ⟨%W, HO⟩, Hts, Hrs, Htv, Hk⟩
  unfold slotPts
  iapply (Rounds.wp_send_pointsTo_with 𝒱₀ ER (ringRd I) (c : Thread nD τ) none (κ₁ := κ (c, .send r (sS s))) (κ₂ := κ (nxt r c, .recv r (rS s)))
      (c' := (nxt r c : Thread nD τ)) (src := slot r (sS s)) (dst := slot r (rS s)) (sS := .dma (sendS r (sS s))) (sem := .dma (recvS r (rS s)))
      (r₁ := s / 2) (r₂ := s / 2) (d₁ := 0) (d₂ := 0) (fs := fs.1) (fd := fd) (F := reached ER (credCell c r) s)
      hds hdv
      s 0 N rfl (amount_send I c r _ _ 0) (amount_recv I (nxt r c) r _ _ 0) O rfl (W := W)
      (by rw [payload_send]; unfold slotAny slotPts; exact exists_intro (Φ := fun f => (slot r (sS s)).view.loc (c : Thread nD τ) ↦[(slot r (sS s)).view.set]{fullShare} f) _)
      (by
        rw [payload_land]
        unfold landPay slotHas slotPts
        rw [prv_nxt]
        refine sep_mono_left ?_
        exact exists_intro (Φ := fun f : {f : Buf (Elt F) ((slot r (rS s)).view.loc (nxt r c : Thread nD τ)) // (cM.access (slotRect r (rS s))).read (Elt F) f = val I r s c} =>
          ((slot r (rS s)).view.loc (nxt r c : Thread nD τ) ↦[(slot r (rS s)).view.set]{fullShare} f.1)) ⟨_, (read_copied r (sS s) (rS s) fs.1 fd).trans (fs.2.trans hv.symm)⟩))
    $$ [Hsrc Hdst Hrv Hrc HO Hts Hrs Htv]
  · isplitr; · iapply (shared_inv I κ c (.send r (sS s))); iexact Hsh
    isplitr; · iapply (shared_inv I κ (nxt r c) (.recv r (rS s))); iexact Hsh
    isplitl [Hsrc]; · iexact Hsrc
    isplitl [Hdst Hrc]; · isplitl [Hdst] <;> iassumption
    isplitl [HO]; · iexact HO
    isplitl [Hts]; · iexact Hts
    isplitl [Hrs]; · iexact Hrs
    isplitl [Htv] <;> iassumption
  iintro ⟨Hc, HO⟩
  iapply Hk
  isplitl [Hc]; · iexact Hc
  iexists _; iexact HO

theorem slot_exact (r k : Fin 2) : (slot r k).view.WordExact := (View.wordExact_bits rfl).reshape _ _

/-! ## The two ends of a copy -/

theorem wp_drain (r : Fin 2) (s : ℕ) (h30 : s < 30) (O : CellTallies nD τ sig ℕ) (hO : Above (2 * s + 2) O) (k : KProg F) :
    iprop(shared I κ ∗ owe c O ∗ posAt (sendCell c r (sS s)) (s / 2) ∗ posAt (recvCell c r (rS s)) (s / 2)
        ∗ cred (tallyAt (sendCell c r (sS s)) 0 N) ∗ cred (tallyAt (recvCell c r (rS s)) s N)
        ∗ ((owe c O ∗ posAt (sendCell c r (sS s)) (s / 2 + 1) ∗ posAt (recvCell c r (rS s)) (s / 2 + 1)
            ∗ slotAny c r (sS s) ∗ slotHas c r (rS s) (val I r s (prv r c)) ∗ reached ER (credCell (prv r c) r) s) -∗ wpc c k Q))
      ⊢ wpc c (drainOp r s k) Q := by
  have hMWs : Above (lv (sendCell c r (sS s)) 0) O := by rw [lv_send]; exact hO.mono (by omega)
  have hMWv : Above (lv (recvCell c r (rS s)) s) O := by rw [lv_recv]; exact hO
  have hEs : 0 + (slot r (sS s)).view.dmaCredit = (ringRd I).expect (sendCell c r (sS s)) (s / 2) := by
    rw [Nat.zero_add, expect_send I c r _ _ (by omega)]; rfl
  have hEv : 0 + (slot r (rS s)).view.dmaCredit = (ringRd I).expect (recvCell c r (rS s)) (s / 2) := by
    rw [Nat.zero_add, expect_recv I c r _ _ (by omega)]; rfl
  unfold owe posAt drainOp
  iintro ⟨#Hsh, ⟨%W, HO⟩, ⟨Has, -⟩, ⟨Hav, -⟩, Hcs, Hcv, Hk⟩
  iapply (Rounds.wp_wait_rest_token 𝒱₀ ER (ringRd I) (c : Thread nD τ) none (κ := κ (c, .send r (sS s)))
      (wpE_waitDma2_eq 𝒱₀ (c : Thread nD τ) none Set.univ (src := slot r (rS s)) (dst := slot r (sS s)) (hsrc := slot_exact _ _) (hdst := slot_exact _ _)) (Set.mem_univ _) 0 (O := O) (W := W) (R := s / 2) (m := 0) (T := ∅)
      hEs) $$ [Hcs HO Has]
  · isplitr; · iapply (shared_inv I κ c (.send r (sS s))); iexact Hsh
    isplitl [Hcs]; · iexact Hcs
    isplitl [HO]; · iexact HO
    isplitr
    · iapply (shared_mayWait I κ c (.dma (sendS r (sS s))) 0 (by omega) (O := O) hMWs); iexact Hsh
    iexact Has
  rw [rest_send I c r (sS s) (s / 2) (by omega)]
  iintro ⟨HO, Has, Hrs, Hsl⟩
  iapply (Rounds.wp_wait_rest_token 𝒱₀ ER (ringRd I) (c : Thread nD τ) none (κ := κ (c, .recv r (rS s)))
      (wpE_waitDma2_eq 𝒱₀ (c : Thread nD τ) none Set.univ (src := slot r (sS s)) (dst := slot r (rS s)) (hsrc := slot_exact _ _) (hdst := slot_exact _ _)) (Set.mem_univ _) s (O := O) (W := insert (SemLoc.dma (sendS r (sS s)), 0) W) (R := s / 2) (m := 0) (T := ∅)
      hEv) $$ [Hcv HO Hav]
  · isplitr; · iapply (shared_inv I κ c (.recv r (rS s))); iexact Hsh
    isplitl [Hcv]; · iexact Hcv
    isplitl [HO]; · iexact HO
    isplitr
    · iapply (shared_mayWait I κ c (.dma (recvS r (rS s))) s h30 (O := O) hMWv); iexact Hsh
    iexact Hav
  rw [rest_land I c r s h30]
  iintro ⟨HO, Hav, Hrv, Hpay⟩
  unfold landPay
  icases Hpay with ⟨Hin, Hrc⟩
  iapply Hk
  isplitl [HO]; · iexists _; iexact HO
  isplitl [Has Hrs]; · isplitl [Has] <;> iassumption
  isplitl [Hav Hrv]; · isplitl [Hav] <;> iassumption
  isplitl [Hsl]; · iexact Hsl
  isplitl [Hin] <;> iassumption

/-! ## Giving a credit -/

theorem wp_give (r : Fin 2) (s : ℕ) (h29 : s < 29) (O : CellTallies nD τ sig ℕ) (k : KProg F) :
    iprop(shared I κ ∗ owe c (O + Ocrd r c s) ∗ slotAny c r (sS s) ∗ reached ER (recvCell c r (sS s)) ((s + 1) / 2) ∗ reached ER (credCell (prv r c) r) s
        ∗ dutyTok ER (credCell (prv r c) r) s 0 ∗ (owe c O -∗ wpc c k Q))
      ⊢ wpc c (.op (.semSignal (prv r c : Thread nD τ) (credS r) ((1 : ℕ) : Int)) fun _ => k) Q := by
  have hd : (0 : Fin 2) ∈ (ringRd I).duties (credCell (prv r c) r) s := by rw [duties_cred I (prv r c) r s h29]; exact Finset.mem_singleton_self _
  have hO : O + Ocrd r c s = O + tallyAt (credCell (prv r c) r) s 1 := by unfold Ocrd; rw [if_pos h29]
  unfold owe
  iintro ⟨#Hsh, ⟨%W, HO⟩, Hs, Hrv, Hrc, Htok, Hk⟩
  iapply (Rounds.wp_signal 𝒱₀ ER (ringRd I) (c : Thread nD τ) none (dst := (prv r c : Thread nD τ)) (κ := κ (prv r c, .cred r)) (r := s) (d := 0)
      hd (amount_cred I (prv r c) r s 0) s (O₀ := O + Ocrd r c s) O hO)
    $$ [HO Htok Hs Hrv Hrc]
  · isplitr; · iapply (shared_inv I κ (prv r c) (.cred r)); iexact Hsh
    isplitl [HO]; · iexact HO
    isplitl [Htok]; · iexact Htok
    isplitl [Hs Hrv]
    · rw [payload_cred]; unfold credPay; rw [nxt_prv, rS_succ]
      isplitl [Hs] <;> iassumption
    · iexact Hrc
  iintro HO
  iapply Hk
  iexists _; iexact HO

end Cert.KernelIdeal.Ring

end
-- ==== Proof.Work.lean ====
/-
# The work of one step

What a step does with the blocks that landed: it reads a slot, reads two factors, puts the sum back, or writes the
block to the result. The result's contents after a step are `outS`.
-/
module

public import proofs.«01_k».proof.Proof.Exchange
public import Idealize.ShloMosaic.Lib.Pipeline.Value

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-- The contents of a device's result buffer. -/
abbrev OutBuf (F : FTy → Type) : Type := (cc0_stg4_0 : Ref sig .tc).ty.Contents (Elt F)

/-- The result with the block `v` written at `R`. -/
def oWrite (R : Fin 2 → ℕ) (hR : ∀ a, R a + S256x1024.size a ≤ S4096x2048.size a) (f : OutBuf F) (v : Vec F S1x1x256x1024 .f32) : OutBuf F :=
  (oM.access (Rect.unit (s := S4096x2048) R S256x1024.size hR)).write (Elt F) f (k0_pay1 v) Finset.univ

/-- The result after step `s`, from the result before it. -/
def outS (s : ℕ) (c : Dev nD) (f : OutBuf F) : OutBuf F :=
  if s = 14 then oWrite (fOff c 1) (fOff_inb c 1) (oWrite (fOff c 0) (fOff_inb c 0) f (val I 0 (s + 1) c)) (val I 1 (s + 1) c)
  else if h : 15 ≤ s ∧ s - 15 < 15 then
    oWrite (gOff c (s - 15) 1) (gOff_inb c _ h.2 1) (oWrite (gOff c (s - 15) 0) (gOff_inb c _ h.2 0) f (val I 0 (s + 1) c)) (val I 1 (s + 1) c)
  else f

/-- The buffers only the device itself touches: its two factors and its result, which holds `f`. -/
def own3 (c : Dev nD) (f : OutBuf F) : sProp 𝕄 :=
  iprop((((c : Thread nD τ).loc cc0_stg0_0) ↦{fullShare} I.x c) ∗ (((c : Thread nD τ).loc cc0_stg1_0) ↦{fullShare} I.w c)
    ∗ (((c : Thread nD τ).loc cc0_stg4_0) ↦{fullShare} f))

variable (c : Dev nD) (Q : PUnit → sProp (MT nD τ sig ℕ (Elt F) ℕ UU ℕ))

theorem slotPts_access (r k : Fin 2) (f) : (slotPts c r k f : sProp 𝕄) = ((cM.access (slotRect r k)).loc (c : Thread nD τ) ↦[(slot r k).view.set]{fullShare} f) := rfl

theorem wp_get (r k : Fin 2) (v : Vec F S1x1x256x1024 .f32) (K : Vec F S1x1x256x1024 .f32 → KProg F) :
    iprop(slotHas c r k v ∗ (slotHas c r k v -∗ wpc c (K v) Q)) ⊢ wpc c (getSlot r k K) Q := by
  unfold slotHas getSlot
  iintro ⟨⟨%f, Hs⟩, Hk⟩
  simp only [slotPts_access]
  iapply (wp_load_rect 𝒱₀ (c : Thread nD τ) none Set.univ (m := cM) (r := slotRect r k) (S := (slot r k).view.set) (f := f.1) (slot_set r k).ge) $$ Hs
  iintro Hs
  rw [f.2]
  iapply Hk
  iexists f; iexact Hs

theorem wp_put (r k : Fin 2) (v : FVec F S1x1x256x1024 .f32) (K : KProg F) :
    iprop(slotAny c r k ∗ (slotHas c r k v -∗ wpc c K Q)) ⊢ wpc c (putSlot r k v K) Q := by
  unfold slotHas slotAny putSlot
  iintro ⟨⟨%f, Hs⟩, Hk⟩
  simp only [slotPts_access]
  iapply (wp_load_rect 𝒱₀ (c : Thread nD τ) none Set.univ (m := cM) (r := slotRect r k) (S := (slot r k).view.set) (f := f) (slot_set r k).ge) $$ Hs
  iintro Hs
  iapply (wp_store 𝒱₀ (c : Thread nD τ) none Set.univ (m := cM) (r := slotRect r k) (Mk := Finset.univ) (S := (slot r k).view.set) (f := f) (slot_set r k).ge) $$ Hs
  iintro Hs
  iapply Hk
  iexists ⟨(cM.access (slotRect r k)).write (Elt F) f v Finset.univ, View.read_write_univ (v := cM.access (slotRect r k)) f v⟩; iexact Hs

theorem wp_factors (r : Fin 2) (R : Fin 2 → ℕ) (hR : ∀ a, R a + S256x256.size a ≤ S4096x256.size a) (f : OutBuf F) (K : Vec F S256x256 .fp8e4m3 → Vec F S256x1024 .fp8e4m3 → KProg F) :
    iprop(own3 I c f ∗ (own3 I c f -∗ wpc c (K (xblk I c R hR) (wblk I c r)) Q)) ⊢ wpc c (getFactors r R hR K) Q := by
  unfold own3 getFactors
  iintro ⟨⟨Hx, Hw, Ho⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx]; · iexact Hx
  isplitl [Hw] <;> iassumption

theorem wp_out (R : Fin 2 → ℕ) (hR : ∀ a, R a + S256x1024.size a ≤ S4096x2048.size a) (f : OutBuf F) (w : FVec F S256x1024 .f32) (v : Vec F S1x1x256x1024 .f32)
    (hw : w = k0_pay1 v) (K : KProg F) :
    iprop(own3 I c f ∗ (own3 I c (oWrite R hR f v) -∗ wpc c K Q)) ⊢ wpc c (putOut R hR w K) Q := by
  subst hw
  unfold own3 putOut
  iintro ⟨⟨Hx, Hw, Ho⟩, Hk⟩
  iapply (wp_load 𝒱₀ (c : Thread nD τ) none Set.univ (m := oM) (Finset.subset_univ _)) $$ Ho; iintro Ho
  iapply (wp_store 𝒱₀ (c : Thread nD τ) none Set.univ (m := oM) (r := Rect.unit (s := S4096x2048) R S256x1024.size hR) (Mk := Finset.univ) (Finset.subset_univ _)) $$ Ho; iintro Ho
  iapply Hk
  isplitl [Hx]; · iexact Hx
  isplitl [Hw]; · iexact Hw
  iexact Ho

theorem pay_scaled (sc : F .f32) (v : Vec F S1x1x256x1024 .f32) (a : Vec F S256x256 .fp8e4m3) (b : Vec F S256x1024 .fp8e4m3) :
    k0_pay53 sc v a b = k0_pay1 (k0_pay54 sc v a b) :=
  (shapeCast_shapeCast _ _ _).symm

/-! ## The four kinds of work, in one direction -/

theorem wp_first (r : Fin 2) (f : OutBuf F) (K : KProg F) :
    iprop(slotAny c r 0 ∗ own3 I c f ∗ ((slotHas c r 0 (val I r 0 c) ∗ own3 I c f) -∗ wpc c K Q)) ⊢ wpc c (firstOp r c K) Q := by
  rw [show val I r 0 c = k0_pay4 (xblk I c (k0_off1 c) (k0_off1_inb c)) (wblk I c r) from rfl]
  unfold firstOp
  iintro ⟨Hs, Hm, Hk⟩
  iapply (wp_factors I c Q r _ _ f) $$ [-]
  isplitl [Hm]; · iexact Hm
  iintro Hm
  iapply (wp_put c Q r 0) $$ [-]
  isplitl [Hs]; · iexact Hs
  iintro Hs
  iapply Hk
  isplitl [Hs] <;> iassumption

theorem wp_sum (r : Fin 2) (s : ℕ) (h : s < 14) (f : OutBuf F) (v : Vec F S1x1x256x1024 .f32) (K : KProg F) :
    iprop(slotHas c r (rS s) v ∗ own3 I c f ∗ ((slotHas c r (rS s) (upd I r s c v) ∗ own3 I c f) -∗ wpc c K Q)) ⊢ wpc c (sumOp r s (by omega) c K) Q := by
  unfold sumOp
  iintro ⟨Hs, Hm, Hk⟩
  iapply (wp_get c Q r (rS s) v) $$ [-]
  isplitl [Hs]; · iexact Hs
  iintro Hs
  iapply (wp_factors I c Q r _ _ f) $$ [-]
  isplitl [Hm]; · iexact Hm
  iintro Hm
  iapply (wp_put c Q r (rS s)) $$ [-]
  isplitl [Hs]; · iapply (slotHas_any c r (rS s) v) $$ Hs
  iintro Hs
  iapply Hk
  unfold upd
  rw [dif_pos h]
  isplitl [Hs] <;> iassumption

theorem wp_fin (r : Fin 2) (f : OutBuf F) (v : Vec F S1x1x256x1024 .f32) (K : KProg F) :
    iprop(slotHas c r (rS 14) v ∗ own3 I c f ∗ ((slotHas c r (rS 14) (upd I r 14 c v) ∗ own3 I c (oWrite (fOff c r) (fOff_inb c r) f (upd I r 14 c v))) -∗ wpc c K Q))
      ⊢ wpc c (finOp r c (scale I c) K) Q := by
  have hu : upd I r 14 c v = k0_pay54 (scale I c) v (xblk I c (xOff c 14 r) (xOff_inb c 14 (by decide) r)) (wblk I c r) := by
    unfold upd; rw [dif_neg (by decide), if_pos rfl]
  rw [hu]
  unfold finOp
  iintro ⟨Hs, Hm, Hk⟩
  iapply (wp_get c Q r (rS 14) v) $$ [-]
  isplitl [Hs]; · iexact Hs
  iintro Hs
  iapply (wp_factors I c Q r _ _ f) $$ [-]
  isplitl [Hm]; · iexact Hm
  iintro Hm
  iapply (wp_out I c Q (fOff c r) (fOff_inb c r) f _ _ (pay_scaled _ _ _ _)) $$ [-]
  isplitl [Hm]; · iexact Hm
  iintro Hm
  iapply (wp_put c Q r (rS 14)) $$ [-]
  isplitl [Hs]; · iapply (slotHas_any c r (rS 14) v) $$ Hs
  iintro Hs
  iapply Hk
  isplitl [Hs] <;> iassumption

theorem wp_gat (r : Fin 2) (s j : ℕ) (h : j < 15) (f : OutBuf F) (v : Vec F S1x1x256x1024 .f32) (K : KProg F) :
    iprop(slotHas c r (rS s) v ∗ own3 I c f ∗ ((slotHas c r (rS s) v ∗ own3 I c (oWrite (gOff c j r) (gOff_inb c j h r) f v)) -∗ wpc c K Q))
      ⊢ wpc c (gatOp r s j h c K) Q := by
  unfold gatOp
  iintro ⟨Hs, Hm, Hk⟩
  iapply (wp_get c Q r (rS s) v) $$ [-]
  isplitl [Hs]; · iexact Hs
  iintro Hs
  iapply (wp_out I c Q _ _ f _ _ rfl) $$ [-]
  isplitl [Hm]; · iexact Hm
  iintro Hm
  iapply Hk
  isplitl [Hs] <;> iassumption

/-! ## The work of step `s` -/

theorem wp_work (s : ℕ) (h30 : s < 30) (f : OutBuf F) (K : KProg F) :
    iprop(slotHas c 0 (rS s) (val I 0 s (prv 0 c)) ∗ slotHas c 1 (rS s) (val I 1 s (prv 1 c)) ∗ own3 I c f
        ∗ ((slotHas c 0 (rS s) (val I 0 (s + 1) c) ∗ slotHas c 1 (rS s) (val I 1 (s + 1) c) ∗ own3 I c (outS I s c f)) -∗ wpc c K Q))
      ⊢ wpc c (workOp s c (scale I c) K) Q := by
  rw [show val I 0 (s + 1) c = upd I 0 s c (val I 0 s (prv 0 c)) from rfl, show val I 1 (s + 1) c = upd I 1 s c (val I 1 s (prv 1 c)) from rfl]
  iintro ⟨H0, H1, Hm, Hk⟩
  unfold workOp
  by_cases h14 : s < 14
  · rw [dif_pos h14, show outS I s c f = f by unfold outS; rw [if_neg (by omega), dif_neg (by omega)]]
    iapply (wp_sum I c Q 0 s h14 f) $$ [-]
    isplitl [H0]; · iexact H0
    isplitl [Hm]; · iexact Hm
    iintro ⟨H0, Hm⟩
    iapply (wp_sum I c Q 1 s h14 f) $$ [-]
    isplitl [H1]; · iexact H1
    isplitl [Hm]; · iexact Hm
    iintro ⟨H1, Hm⟩
    iapply Hk
    isplitl [H0]; · iexact H0
    isplitl [H1] <;> iassumption
  · rw [dif_neg h14]
    by_cases he : s = 14
    · subst he
      rw [if_pos rfl, show outS I 14 c f = oWrite (fOff c 1) (fOff_inb c 1) (oWrite (fOff c 0) (fOff_inb c 0) f (upd I 0 14 c (val I 0 14 (prv 0 c)))) (upd I 1 14 c (val I 1 14 (prv 1 c))) by
        unfold outS; rw [if_pos rfl]; rfl]
      iapply (wp_fin I c Q 0 f) $$ [-]
      isplitl [H0]; · iexact H0
      isplitl [Hm]; · iexact Hm
      iintro ⟨H0, Hm⟩
      iapply (wp_fin I c Q 1) $$ [-]
      isplitl [H1]; · iexact H1
      isplitl [Hm]; · iexact Hm
      iintro ⟨H1, Hm⟩
      iapply Hk
      isplitl [H0]; · iexact H0
      isplitl [H1] <;> iassumption
    · have hj : s - 15 < 15 := by omega
      have hu (r : Fin 2) (v : Vec F S1x1x256x1024 .f32) : upd I r s c v = v := by unfold upd; rw [dif_neg h14, if_neg he]
      rw [if_neg he, dif_pos hj, show outS I s c f = oWrite (gOff c (s - 15) 1) (gOff_inb c _ hj 1) (oWrite (gOff c (s - 15) 0) (gOff_inb c _ hj 0) f (upd I 0 s c (val I 0 s (prv 0 c)))) (upd I 1 s c (val I 1 s (prv 1 c))) by
        unfold outS; rw [if_neg he, dif_pos ⟨by omega, hj⟩]; rfl, hu, hu]
      iapply (wp_gat I c Q 0 s (s - 15) hj f) $$ [-]
      isplitl [H0]; · iexact H0
      isplitl [Hm]; · iexact Hm
      iintro ⟨H0, Hm⟩
      iapply (wp_gat I c Q 1 s (s - 15) hj) $$ [-]
      isplitl [H1]; · iexact H1
      isplitl [Hm]; · iexact Hm
      iintro ⟨H1, Hm⟩
      iapply Hk
      isplitl [H0]; · iexact H0
      isplitl [H1] <;> iassumption

end Cert.KernelIdeal.Ring

end
-- ==== Proof.Step.lean ====
/-
# One step, and thirty

What a device holds before step `s`, in either direction, and that the step takes it to what it holds before step
`s + 1`. The thirty steps follow by induction.
-/
module

public import proofs.«01_k».proof.Proof.Work
public import Idealize.SL.BI.BigOpNat

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## What a device holds between the steps -/

/-- The credit step `s` takes. -/
def credTok (r : Fin 2) (c : Dev nD) (s : ℕ) : sProp 𝕄 := if 1 ≤ s then cred (tallyAt (credCell c r) (s - 1) 1) else iprop(emp)

/-- What step `t` spends in direction `r`: its three duties, and what it waits for. -/
def todo (r : Fin 2) (c : Dev nD) (t : ℕ) : sProp 𝕄 :=
  iprop(dutyTok ER (sendCell c r (sS t)) (t / 2) 0 ∗ dutyTok ER (recvCell (nxt r c) r (rS t)) (t / 2) 0 ∗ dutyTok ER (credCell (prv r c) r) t 0
    ∗ cred (tallyAt (recvCell c r (rS t)) t N) ∗ credTok r c t)

/-- The slot beside the one to be sent: at the start the neighbour's, at the end the device's own, in between lent. -/
def spare (r : Fin 2) (s : ℕ) (c : Dev nD) : sProp 𝕄 := if s = 0 then aim r 0 c else if s = 30 then slotAny c r (rS s) else iprop(emp)

/-- Direction `r` of device `c` before step `s`. -/
def dirAt (r : Fin 2) (s : ℕ) (c : Dev nD) : sProp 𝕄 :=
  iprop(slotHas c r (sS s) (val I r s c) ∗ spare r s c ∗ atPos ER (credCell c r) (s - 1) ∅ 0
    ∗ posAt (sendCell c r (sS s)) (s / 2) ∗ posAt (sendCell c r (rS s)) ((s + 1) / 2)
    ∗ posAt (recvCell c r (rS s)) (s / 2) ∗ posAt (recvCell c r (sS s)) ((s + 1) / 2)
    ∗ bigSep (Finset.Ico s 30) (todo r c))

/-- Device `c` before step `s`. -/
def stateAt (s : ℕ) (c : Dev nD) (f : OutBuf F) : sProp 𝕄 :=
  iprop(dirAt I 0 s c ∗ dirAt I 1 s c ∗ own3 I c f ∗ owe c (Oat c s))

/-- The result before step `s`. -/
def outAt (c : Dev nD) (f : OutBuf F) : ℕ → OutBuf F
  | 0 => f
  | s + 1 => outS I s c (outAt c f s)

variable (κ : Dev nD × Kd → ℕ) (c : Dev nD) (Q : PUnit → sProp (MT nD τ sig ℕ (Elt F) ℕ UU ℕ))

/-! ## The credits of a step -/

theorem wp_takeCredits (s : ℕ) (h30 : s < 30) (O : CellTallies nD τ sig ℕ) (hO : Above (2 * s + 1) O) (k : KProg F) :
    iprop(shared I κ ∗ owe c O ∗ (spare 0 s c ∗ atPos ER (credCell c 0) (s - 1) ∅ 0 ∗ credTok 0 c s) ∗ (spare 1 s c ∗ atPos ER (credCell c 1) (s - 1) ∅ 0 ∗ credTok 1 c s)
        ∗ ((owe c O ∗ (atPos ER (credCell c 0) s ∅ 0 ∗ aim 0 s c) ∗ (atPos ER (credCell c 1) s ∅ 0 ∗ aim 1 s c)) -∗ wpc c k Q))
      ⊢ wpc c (creditWait s k) Q := by
  unfold spare credTok
  by_cases h : s = 0
  · subst h
    rw [if_pos rfl, if_pos rfl]
    iintro ⟨#Hsh, HO, ⟨Hs0, Ha0, Hc0⟩, ⟨Hs1, Ha1, Hc1⟩, Hk⟩
    iapply Hk
    isplitl [HO]; · iexact HO
    isplitl [Hs0 Ha0]; · isplitl [Ha0] <;> iassumption
    isplitl [Ha1] <;> iassumption
  · have h1 : 1 ≤ s := Nat.pos_of_ne_zero h
    have he : creditWait s k = .op (.semWait (credS 0) ((1 : ℕ) : Int)) fun _ => .op (.semWait (credS 1) ((1 : ℕ) : Int)) fun _ => k := by
      unfold creditWait; rw [Nat.ble_eq_true_of_le h1]; rfl
    rw [he, if_pos h1, if_pos h1]
    iintro ⟨#Hsh, HO, ⟨Hs0, Ha0, Hc0⟩, ⟨Hs1, Ha1, Hc1⟩, Hk⟩
    iapply (wp_credit I κ c Q 0 s h1 h30 O hO) $$ [-]
    isplitr; · iexact Hsh
    isplitl [HO]; · iexact HO
    isplitl [Ha0]; · iexact Ha0
    isplitl [Hc0]; · iexact Hc0
    iintro ⟨HO, Ha0, Hm0⟩
    iapply (wp_credit I κ c Q 1 s h1 h30 O hO) $$ [-]
    isplitr; · iexact Hsh
    isplitl [HO]; · iexact HO
    isplitl [Ha1]; · iexact Ha1
    isplitl [Hc1]; · iexact Hc1
    iintro ⟨HO, Ha1, Hm1⟩
    iapply Hk
    isplitl [HO]; · iexact HO
    isplitl [Ha0 Hm0]; · isplitl [Ha0] <;> iassumption
    isplitl [Ha1] <;> iassumption

theorem wp_giveCredits (s : ℕ) (h30 : s < 30) (O : CellTallies nD τ sig ℕ) (k : KProg F) :
    iprop(shared I κ ∗ owe c (O + (Ocrd 0 c s + Ocrd 1 c s))
        ∗ (slotAny c 0 (sS s) ∗ reached ER (recvCell c 0 (sS s)) ((s + 1) / 2) ∗ reached ER (credCell (prv 0 c) 0) s ∗ dutyTok ER (credCell (prv 0 c) 0) s 0)
        ∗ (slotAny c 1 (sS s) ∗ reached ER (recvCell c 1 (sS s)) ((s + 1) / 2) ∗ reached ER (credCell (prv 1 c) 1) s ∗ dutyTok ER (credCell (prv 1 c) 1) s 0)
        ∗ ((owe c O ∗ spare 0 (s + 1) c ∗ spare 1 (s + 1) c) -∗ wpc c k Q))
      ⊢ wpc c (creditSignal s c k) Q := by
  unfold spare
  rw [if_neg (Nat.succ_ne_zero s), if_neg (Nat.succ_ne_zero s)]
  by_cases h : s = 29
  · subst h
    rw [if_pos rfl, if_pos rfl, show O + (Ocrd 0 c 29 + Ocrd 1 c 29) = O by unfold Ocrd; rw [if_neg (by decide), if_neg (by decide)]; abel]
    iintro ⟨#Hsh, HO, ⟨Hs0, Hv0, Hc0, Ht0⟩, ⟨Hs1, Hv1, Hc1, Ht1⟩, Hk⟩
    iapply Hk
    isplitl [HO]; · iexact HO
    isplitl [Hs0]; · iexact Hs0
    iexact Hs1
  · have h29 : s < 29 := by omega
    have he : creditSignal s c k = .op (.semSignal (prv 0 c : Thread nD τ) (credS 0) ((1 : ℕ) : Int)) fun _ => .op (.semSignal (prv 1 c : Thread nD τ) (credS 1) ((1 : ℕ) : Int)) fun _ => k := by
      unfold creditSignal; rw [Nat.ble_eq_true_of_le (by omega : s ≤ 28)]; rfl
    rw [he, if_neg (by omega), if_neg (by omega), show O + (Ocrd 0 c s + Ocrd 1 c s) = (O + Ocrd 1 c s) + Ocrd 0 c s by abel]
    iintro ⟨#Hsh, HO, ⟨Hs0, Hv0, Hc0, Ht0⟩, ⟨Hs1, Hv1, Hc1, Ht1⟩, Hk⟩
    iapply (wp_give I κ c Q 0 s h29 (O + Ocrd 1 c s)) $$ [-]
    isplitr; · iexact Hsh
    isplitl [HO]; · iexact HO
    isplitl [Hs0]; · iexact Hs0
    isplitl [Hv0]; · iexact Hv0
    isplitl [Hc0]; · iexact Hc0
    isplitl [Ht0]; · iexact Ht0
    iintro HO
    iapply (wp_give I κ c Q 1 s h29 O) $$ [-]
    isplitr; · iexact Hsh
    isplitl [HO]; · iexact HO
    isplitl [Hs1]; · iexact Hs1
    isplitl [Hv1]; · iexact Hv1
    isplitl [Hc1]; · iexact Hc1
    isplitl [Ht1]; · iexact Ht1
    iintro HO
    iapply Hk
    isplitl [HO]; · iexact HO
    isplitr <;> iempintro

omit [FloatOps F] in
theorem posAt_reached (g : GSem nD τ sig) (j : ℕ) : (posAt g j : sProp 𝕄) ⊢ iprop(posAt g j ∗ reached ER g j) := by
  unfold posAt
  iintro ⟨Ha, #Hr⟩
  isplitl [Ha]
  · isplitl [Ha]; · iexact Ha
    iexact Hr
  iexact Hr

theorem wpc_ret : iprop(|={Set.univ}=> Q ⟨⟩) ⊢ wpc c (.ret ⟨⟩) Q := by
  unfold wpc
  rw [wp_ret]

/-! ## A step -/

theorem wp_step (s : ℕ) (h30 : s < 30) (f : OutBuf F) (K : KProg F) :
    iprop(shared I κ ∗ stateAt I s c f ∗ (stateAt I (s + 1) c (outS I s c f) -∗ wpc c K Q)) ⊢ wpc c (stepOp s c (scale I c) K) Q := by
  have hA : Above (2 * s + 1) (Oat c s) := above_Oat c s _ (by omega)
  have hB : Above (2 * s + 2) (Oat c (s + 1) + (Ocrd 0 c s + Ocrd 1 c s)) :=
    (above_Oat c (s + 1) _ (by omega)).add ((above_Ocrd 0 c s _ (by omega)).add (above_Ocrd 1 c s _ (by omega)))
  have hp : (s + 1 + 1) / 2 = s / 2 + 1 := by omega
  unfold stateAt dirAt stepOp
  rw [bigSep_Ico_succ_bot h30, bigSep_Ico_succ_bot h30, rS_succ, sS_succ, hp, Nat.add_sub_cancel]
  unfold todo
  iintro ⟨#Hsh, ⟨⟨Hslot0, Hsp0, Hat0, Hps0, Hpt0, Hpr0, Hpu0, ⟨Hts0, Htv0, Htc0, Hcv0, Hct0⟩, Hrest0⟩,
    ⟨Hslot1, Hsp1, Hat1, Hps1, Hpt1, Hpr1, Hpu1, ⟨Hts1, Htv1, Htc1, Hcv1, Hct1⟩, Hrest1⟩, Hm, HO⟩, Hk⟩
  ihave H := (posAt_reached _ _) $$ Hps0; icases H with ⟨Hps0, #Hps0r⟩
  ihave H := (posAt_reached _ _) $$ Hpu0; icases H with ⟨Hpu0, #Hpu0r⟩
  ihave H := (posAt_reached _ _) $$ Hps1; icases H with ⟨Hps1, #Hps1r⟩
  ihave H := (posAt_reached _ _) $$ Hpu1; icases H with ⟨Hpu1, #Hpu1r⟩
  iapply (wp_takeCredits I κ c Q s h30 _ hA) $$ [-]
  isplitr; · iexact Hsh
  isplitl [HO]; · iexact HO
  isplitl [Hsp0 Hat0 Hct0]
  · isplitl [Hsp0]; · iexact Hsp0
    isplitl [Hat0] <;> iassumption
  isplitl [Hsp1 Hat1 Hct1]
  · isplitl [Hsp1]; · iexact Hsp1
    isplitl [Hat1] <;> iassumption
  rw [Oat_step c s h30]
  iintro ⟨HO, ⟨Hat0, Haim0⟩, ⟨Hat1, Haim1⟩⟩
  iapply (wp_send I κ c Q 0 s h30 _ _ rfl) $$ [-]
  isplitr; · iexact Hsh
  isplitl [Hslot0]; · iexact Hslot0
  isplitl [Haim0]; · iexact Haim0
  isplitl [HO]; · iexact HO
  isplitl [Hts0]; · iexact Hts0
  isplitr; · iexact Hps0r
  isplitl [Htv0]; · iexact Htv0
  iintro ⟨Hcs0, HO⟩
  iapply (wp_send I κ c Q 1 s h30 _ _ rfl) $$ [-]
  isplitr; · iexact Hsh
  isplitl [Hslot1]; · iexact Hslot1
  isplitl [Haim1]; · iexact Haim1
  isplitl [HO]; · iexact HO
  isplitl [Hts1]; · iexact Hts1
  isplitr; · iexact Hps1r
  isplitl [Htv1]; · iexact Htv1
  iintro ⟨Hcs1, HO⟩
  iapply (wp_drain I κ c Q 0 s h30 _ hB) $$ [-]
  isplitr; · iexact Hsh
  isplitl [HO]; · iexact HO
  isplitl [Hps0]; · iexact Hps0
  isplitl [Hpr0]; · iexact Hpr0
  isplitl [Hcs0]; · iexact Hcs0
  isplitl [Hcv0]; · iexact Hcv0
  iintro ⟨HO, Hps0, Hpr0, Hold0, Hnew0, Hgo0⟩
  iapply (wp_drain I κ c Q 1 s h30 _ hB) $$ [-]
  isplitr; · iexact Hsh
  isplitl [HO]; · iexact HO
  isplitl [Hps1]; · iexact Hps1
  isplitl [Hpr1]; · iexact Hpr1
  isplitl [Hcs1]; · iexact Hcs1
  isplitl [Hcv1]; · iexact Hcv1
  iintro ⟨HO, Hps1, Hpr1, Hold1, Hnew1, Hgo1⟩
  iapply (wp_work I c Q s h30 f) $$ [-]
  isplitl [Hnew0]; · iexact Hnew0
  isplitl [Hnew1]; · iexact Hnew1
  isplitl [Hm]; · iexact Hm
  iintro ⟨Hnew0, Hnew1, Hm⟩
  iapply (wp_giveCredits I κ c Q s h30) $$ [-]
  isplitr; · iexact Hsh
  isplitl [HO]; · iexact HO
  isplitl [Hold0 Hgo0 Htc0]
  · isplitl [Hold0]; · iexact Hold0
    isplitr; · iexact Hpu0r
    isplitl [Hgo0] <;> iassumption
  isplitl [Hold1 Hgo1 Htc1]
  · isplitl [Hold1]; · iexact Hold1
    isplitr; · iexact Hpu1r
    isplitl [Hgo1] <;> iassumption
  iintro ⟨HO, Hsp0, Hsp1⟩
  iapply Hk
  isplitl [Hnew0 Hsp0 Hat0 Hps0 Hpt0 Hpr0 Hpu0 Hrest0]
  · isplitl [Hnew0]; · iexact Hnew0
    isplitl [Hsp0]; · iexact Hsp0
    isplitl [Hat0]; · iexact Hat0
    isplitl [Hpt0]; · iexact Hpt0
    isplitl [Hps0]; · iexact Hps0
    isplitl [Hpu0]; · iexact Hpu0
    isplitl [Hpr0] <;> iassumption
  isplitl [Hnew1 Hsp1 Hat1 Hps1 Hpt1 Hpr1 Hpu1 Hrest1]
  · isplitl [Hnew1]; · iexact Hnew1
    isplitl [Hsp1]; · iexact Hsp1
    isplitl [Hat1]; · iexact Hat1
    isplitl [Hpt1]; · iexact Hpt1
    isplitl [Hps1]; · iexact Hps1
    isplitl [Hpu1]; · iexact Hpu1
    isplitl [Hpr1] <;> iassumption
  isplitl [Hm] <;> iassumption

/-- The steps from `s` on. -/
theorem wp_steps (f : OutBuf F) : ∀ (n s : ℕ), s + n = 30 →
    iprop(shared I κ ∗ stateAt I s c (outAt I c f s) ∗ (stateAt I 30 c (outAt I c f 30) -∗ |={Set.univ}=> Q ⟨⟩)) ⊢ wpc c (stepsOp c (scale I c) n s) Q
  | 0, s, h => by
    obtain rfl : s = 30 := h
    unfold stepsOp
    iintro ⟨-, Hs, Hk⟩
    iapply (wpc_ret c Q)
    iapply Hk $$ Hs
  | n + 1, s, h => by
    unfold stepsOp
    iintro ⟨#Hsh, Hs, Hk⟩
    iapply (wp_step I κ c Q s (by omega) (outAt I c f s)) $$ [-]
    isplitr; · iexact Hsh
    isplitl [Hs]; · iexact Hs
    iintro Hs
    iapply (wp_steps f n (s + 1) (by omega)) $$ [-]
    isplitr; · iexact Hsh
    isplitl [Hs]; · iexact Hs
    iexact Hk

end Cert.KernelIdeal.Ring

end
-- ==== Proof.Result.lean ====
/-
# The result the thirty steps write

Every block of 256 rows and 1024 columns of the result is written in exactly one of the steps 14 to 29, so what the
result holds at the end does not depend on what it held before.
-/
module

public import proofs.«01_k».proof.Proof.Step

@[expose] public section

set_option synthInstance.maxSize 4096

noncomputable section

namespace Cert.KernelIdeal.Ring

open Cert.KernelIdeal.Gen
open Idealize.ShloMosaic Idealize.ShloMosaic.TcCoe

variable {F : FTy → Type} [FloatOps F] (I : Inp F)

theorem blk_pos : ∀ a : Fin 2, 0 < S256x1024.size a := by decide

/-- The place of an element of the result in its block. -/
def blkIdx (i : S4096x2048.Idx) : S256x1024.Idx := fun a => ⟨(i a).val % S256x1024.size a, Nat.mod_lt _ (blk_pos a)⟩

/-- The half of the columns, which is the direction the block travels in. -/
def halfOf (i : S4096x2048.Idx) : Fin 2 := ⟨(i (1 : Fin 2)).val / 1024, by have := (i (1 : Fin 2)).isLt; change _ < 2048 at this; omega⟩

/-- The step after 14 in which device `c` writes the block `q` of half `r`. -/
def lateOf : Fin 2 → ℕ → Dev nD → ℕ
  | 0, q, c => (c.val + 17 - q) % 16
  | 1, q, c => (q + 17 - c.val) % 16

theorem lateOf_lt : ∀ r q c, lateOf r q c < 16
  | 0, _, _ => Nat.mod_lt _ (by decide)
  | 1, _, _ => Nat.mod_lt _ (by decide)

/-- The result on device `c`. -/
def result (c : Dev nD) : OutBuf F := fun i : S4096x2048.Idx =>
  k0_pay1 (val I (halfOf i) (14 + lateOf (halfOf i) ((i (0 : Fin 2)).val / 256) c + 1) c) (blkIdx i)

theorem oWrite_apply (R : Fin 2 → ℕ) (hR : ∀ a, R a + S256x1024.size a ≤ S4096x2048.size a) (f : OutBuf F) (v : Vec F S1x1x256x1024 .f32)
    (q : ℕ) (r : Fin 2) (h : R = ![256 * q, 1024 * r.val]) (i : S4096x2048.Idx) :
    oWrite R hR f v i = if (i (0 : Fin 2)).val / 256 = q ∧ halfOf i = r then k0_pay1 v (blkIdx i) else f i := by
  subst h
  have e : oWrite ![256 * q, 1024 * r.val] hR f v = updateSlice f (k0_pay1 v) ![256 * q, 1024 * r.val] ⟨rfl, hR⟩ :=
    View.write_whole_slice_unit cc0_stg4_0 _ _ hR f (k0_pay1 v)
  rw [e]
  unfold updateSlice
  have hr := r.isLt
  by_cases hc : (i (0 : Fin 2)).val / 256 = q ∧ halfOf i = r
  · have h1 : (i (1 : Fin 2)).val / 1024 = r.val := congrArg Fin.val hc.2
    have h0 := hc.1
    have hin : ∀ a : Fin 2, (![256 * q, 1024 * r.val] : Fin 2 → ℕ) a ≤ (i a).val ∧ (i a).val < (![256 * q, 1024 * r.val] : Fin 2 → ℕ) a + S256x1024.size a := by
      intro a
      fin_cases a
      · show 256 * q ≤ (i (0 : Fin 2)).val ∧ (i (0 : Fin 2)).val < 256 * q + 256
        omega
      · show 1024 * r.val ≤ (i (1 : Fin 2)).val ∧ (i (1 : Fin 2)).val < 1024 * r.val + 1024
        omega
    rw [if_pos hc]
    refine (dif_pos hin).trans (congrArg (k0_pay1 v) (funext fun a => Fin.ext ?_))
    fin_cases a
    · show (i (0 : Fin 2)).val - 256 * q = (i (0 : Fin 2)).val % 256
      omega
    · show (i (1 : Fin 2)).val - 1024 * r.val = (i (1 : Fin 2)).val % 1024
      omega
  · rw [if_neg hc]
    refine dif_neg fun hin => ?_
    have h0 : 256 * q ≤ (i (0 : Fin 2)).val ∧ (i (0 : Fin 2)).val < 256 * q + 256 := hin (0 : Fin 2)
    have h1 : 1024 * r.val ≤ (i (1 : Fin 2)).val ∧ (i (1 : Fin 2)).val < 1024 * r.val + 1024 := hin (1 : Fin 2)
    exact hc ⟨by omega, Fin.ext (by show (i (1 : Fin 2)).val / 1024 = r.val; omega)⟩

/-- The block of half `r` which device `c` writes in step `14 + t`. -/
def lateBlk : Fin 2 → ℕ → Dev nD → ℕ
  | 0, t, c => (c.val + 17 - t) % 16
  | 1, t, c => (c.val + 15 + t) % 16

theorem late_iff (c : Dev nD) (q t : ℕ) (hq : q < 16) (ht : t < 16) : ∀ r, q = lateBlk r t c ↔ lateOf r q c = t
  | 0 => by
    have h : c.val < 16 := c.isLt
    show q = (c.val + 17 - t) % 16 ↔ (c.val + 17 - q) % 16 = t
    constructor <;> intro e <;> omega
  | 1 => by
    have h : c.val < 16 := c.isLt
    show q = (c.val + 15 + t) % 16 ↔ (q + 17 - c.val) % 16 = t
    constructor <;> intro e <;> omega

theorem fOff_eq (c : Dev nD) : ∀ r : Fin 2, fOff c r = ![256 * lateBlk r 0 c, 1024 * r.val]
  | 0 => (k0_off4_eq c).trans (by
      show ![256 * ((c.val + 1) % 16), 0] = ![256 * ((c.val + 17 - 0) % 16), 0]
      rw [show (c.val + 17 - 0) % 16 = (c.val + 1) % 16 by omega])
  | 1 => k0_off5_eq c
theorem gOff_eq (c : Dev nD) (j : ℕ) (hj : j < 15) : ∀ r : Fin 2, gOff c j r = ![256 * lateBlk r (j + 1) c, 1024 * r.val]
  | 0 => (k0_off6_eq c ⟨j, hj⟩).trans (by
      show ![256 * ((c.val + 16 - j) % 16), 0] = ![256 * ((c.val + 17 - (j + 1)) % 16), 0]
      rw [show c.val + 17 - (j + 1) = c.val + 16 - j by omega])
  | 1 => (k0_off7_eq c ⟨j, hj⟩).trans (by
      show ![256 * ((c.val + j) % 16), 1024] = ![256 * ((c.val + 15 + (j + 1)) % 16), 1024]
      rw [show (c.val + 15 + (j + 1)) % 16 = (c.val + j) % 16 by omega])

/-- Two blocks written late, one in either half. -/
theorem write_two (c : Dev nD) (s t : ℕ) (ht : t < 16) (hs : s = 14 + t) (R : Fin 2 → Fin 2 → ℕ) (hR : ∀ r a, R r a + S256x1024.size a ≤ S4096x2048.size a)
    (he : ∀ r, R r = ![256 * lateBlk r t c, 1024 * r.val]) (f : OutBuf F) (i : S4096x2048.Idx) :
    oWrite (R 1) (hR 1) (oWrite (R 0) (hR 0) f (val I 0 (s + 1) c)) (val I 1 (s + 1) c) i
      = if 14 + lateOf (halfOf i) ((i (0 : Fin 2)).val / 256) c = s then result I c i else f i := by
  have hq : (i (0 : Fin 2)).val / 256 < 16 := by have := (i (0 : Fin 2)).isLt; change _ < 4096 at this; omega
  subst hs
  rw [oWrite_apply _ _ _ _ _ 1 (he 1), oWrite_apply _ _ _ _ _ 0 (he 0)]
  simp only [late_iff c _ t hq ht]
  unfold result
  have hr : halfOf i = 0 ∨ halfOf i = 1 := by generalize halfOf i = r; revert r; decide
  have h01 : ¬((0 : Fin 2) = 1) := by decide
  have h10 : ¬((1 : Fin 2) = 0) := by decide
  rcases hr with hr | hr <;> simp only [hr, Nat.add_left_cancel_iff, and_true, h01, h10, and_false, if_false]
  · by_cases h : lateOf 0 ((i (0 : Fin 2)).val / 256) c = t
    · rw [if_pos h, if_pos h, h]
    · rw [if_neg h, if_neg h]
  · by_cases h : lateOf 1 ((i (0 : Fin 2)).val / 256) c = t
    · rw [if_pos h, if_pos h, h]
    · rw [if_neg h, if_neg h]

theorem outS_apply (c : Dev nD) (s : ℕ) (hs : s < 30) (f : OutBuf F) (i : S4096x2048.Idx) :
    outS I s c f i = if 14 + lateOf (halfOf i) ((i (0 : Fin 2)).val / 256) c = s then result I c i else f i := by
  unfold outS
  by_cases h14 : s = 14
  · rw [if_pos h14]
    exact write_two I c s 0 (by decide) h14 (fOff c) (fOff_inb c) (fOff_eq c) f i
  · rw [if_neg h14]
    by_cases h : 15 ≤ s ∧ s - 15 < 15
    · rw [dif_pos h]
      exact write_two I c s (s - 15 + 1) (by omega) (by omega) (gOff c (s - 15)) (gOff_inb c _ h.2) (gOff_eq c _ h.2) f i
    · rw [dif_neg h, if_neg (by omega)]

theorem outAt_apply (c : Dev nD) (f : OutBuf F) (i : S4096x2048.Idx) : ∀ n, n ≤ 30 →
    outAt I c f n i = if 14 + lateOf (halfOf i) ((i (0 : Fin 2)).val / 256) c < n then result I c i else f i
  | 0, _ => (if_neg (by omega)).symm
  | n + 1, h => by
    show outS I n c (outAt I c f n) i = _
    rw [outS_apply I c n (by omega), outAt_apply c f i n (by omega)]
    by_cases h1 : 14 + lateOf (halfOf i) ((i (0 : Fin 2)).val / 256) c = n
    · rw [if_pos h1, if_pos (by omega)]
    · rw [if_neg h1]
      by_cases h2 : 14 + lateOf (halfOf i) ((i (0 : Fin 2)).val / 256) c < n
      · rw [if_pos h2, if_pos (by omega)]
      · rw [if_neg h2, if_neg (by omega)]

/-- After the thirty steps the result is complete, whatever was there before. -/
theorem outAt_end (c : Dev nD) (f : OutBuf F) : outAt I c f 30 = result I c := by
  funext i
  have h := lateOf_lt (halfOf i) ((i (0 : Fin 2)).val / 256) c
  exact (outAt_apply I c f i 30 (Nat.le_refl _)).trans (if_pos (by omega))

end Cert.KernelIdeal.Ring

end
-- ==== Proof.Sound.lean ====
/-
# The body from start to end

The whole body on a device: it pays and takes the barrier, reads its scale, makes its two first products and runs the
thirty steps. At the end every semaphore of the device is closed at zero, the four slots are one buffer again, and the
result is `result`.
-/
module

public import proofs.«01_k».proof.Proof.Result
public import Idealize.ShloMosaic.Lib.Ring

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## The scratch buffer is its four slots -/

/-- The elements of slot `k` of direction `r`. -/
def slotSet (x : Fin 2 × Fin 2) : Finset (Idx (((0 : Dev nD) : Thread nD τ).loc cc0_scratch0)) := (slot x.1 x.2).view.set

theorem mem_slotSet (x : Fin 2 × Fin 2) (i : S2x2x256x1024.Idx) : i ∈ slotSet x ↔ (i (0 : Fin 4)).val = x.1.val ∧ (i (1 : Fin 4)).val = x.2.val := by
  have e : slotSet x = (slotRect x.1 x.2).set := (slot_set x.1 x.2).trans (View.set_slice_whole cc0_scratch0 (slotRect x.1 x.2))
  have h2 : (i (2 : Fin 4)).val < 256 := (i (2 : Fin 4)).isLt
  have h3 : (i (3 : Fin 4)).val < 1024 := (i (3 : Fin 4)).isLt
  rw [e]
  unfold slotRect
  refine Rect.mem_set_unit.trans ?_
  constructor
  · intro h
    have h0 : x.1.val ≤ (i (0 : Fin 4)).val ∧ (i (0 : Fin 4)).val < x.1.val + 1 := h (0 : Fin 4)
    have h1 : x.2.val ≤ (i (1 : Fin 4)).val ∧ (i (1 : Fin 4)).val < x.2.val + 1 := h (1 : Fin 4)
    omega
  · rintro ⟨h0, h1⟩ a
    fin_cases a
    · show x.1.val ≤ (i (0 : Fin 4)).val ∧ (i (0 : Fin 4)).val < x.1.val + 1
      omega
    · show x.2.val ≤ (i (1 : Fin 4)).val ∧ (i (1 : Fin 4)).val < x.2.val + 1
      omega
    · show 0 ≤ (i (2 : Fin 4)).val ∧ (i (2 : Fin 4)).val < 0 + 256
      omega
    · show 0 ≤ (i (3 : Fin 4)).val ∧ (i (3 : Fin 4)).val < 0 + 1024
      omega

theorem slots_disjoint (x y : Fin 2 × Fin 2) (h : x ≠ y) : Disjoint (slotSet x) (slotSet y) := by
  rw [Finset.disjoint_left]
  intro i hx hy
  have h1 := (mem_slotSet x i).mp hx
  have h2 := (mem_slotSet y i).mp hy
  exact h (Prod.ext (Fin.ext (by omega)) (Fin.ext (by omega)))

theorem slots_cover : Finset.univ.biUnion slotSet = Finset.univ := by
  ext i
  simp only [Finset.mem_biUnion, Finset.mem_univ, true_and, iff_true]
  have h0 : ((i : S2x2x256x1024.Idx) (0 : Fin 4)).val < 2 := ((i : S2x2x256x1024.Idx) (0 : Fin 4)).isLt
  have h1 : ((i : S2x2x256x1024.Idx) (1 : Fin 4)).val < 2 := ((i : S2x2x256x1024.Idx) (1 : Fin 4)).isLt
  exact ⟨(⟨_, h0⟩, ⟨_, h1⟩), (mem_slotSet _ i).mpr ⟨rfl, rfl⟩⟩

variable (κ : Dev nD × Kd → ℕ) (c : Dev nD) (Q : PUnit → sProp (MT nD τ sig ℕ (Elt F) ℕ UU ℕ))

/-- The scratch buffer, holding anything. -/
def scrAny : sProp 𝕄 := iprop(∃ f : Buf (Elt F) ((c : Thread nD τ).loc cc0_scratch0), ((c : Thread nD τ).loc cc0_scratch0) ↦{fullShare} f)

omit [FloatOps F] in
theorem bigSep_slots (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

omit [FloatOps F] in
theorem scr_split : (scrAny c : sProp 𝕄) ⊢ iprop(slotAny c 0 0 ∗ slotAny c 0 1 ∗ slotAny c 1 0 ∗ slotAny c 1 1) := by
  have h (f : Buf (Elt F) ((c : Thread nD τ).loc cc0_scratch0)) : ((((c : Thread nD τ).loc cc0_scratch0) ↦{fullShare} f) : sProp 𝕄)
      ⊢ bigSep Finset.univ fun x : Fin 2 × Fin 2 => slotAny c x.1 x.2 := by
    rw [Ring.pointsTo_blocks (ℓ := (c : Thread nD τ).loc cc0_scratch0) slotSet slots_disjoint slots_cover f]
    refine bigSep_mono fun x _ => ?_
    unfold slotAny slotPts
    exact exists_intro (Φ := fun f => (slot x.1 x.2).view.loc (c : Thread nD τ) ↦[(slot x.1 x.2).view.set]{fullShare} f) f
  rw [← bigSep_slots (fun x : Fin 2 × Fin 2 => slotAny c x.1 x.2)]
  unfold scrAny
  iintro ⟨%f, H⟩
  iapply (h f) $$ H

omit [FloatOps F] in
theorem scr_join : iprop(slotAny c 0 0 ∗ slotAny c 0 1 ∗ slotAny c 1 0 ∗ slotAny c 1 1) ⊢ (scrAny c : sProp 𝕄) := by
  have h (f : Buf (Elt F) ((c : Thread nD τ).loc cc0_scratch0)) : bigSep Finset.univ (fun x : Fin 2 × Fin 2 => slotAny (F := F) c x.1 x.2) ⊢ (scrAny c : sProp 𝕄) :=
    Ring.pointsTo_blocks_join_exists (ℓ := (c : Thread nD τ).loc cc0_scratch0) slotSet slots_disjoint slots_cover f
  rw [bigSep_slots (fun x : Fin 2 × Fin 2 => slotAny c x.1 x.2)] at h
  iintro ⟨H0, H⟩
  unfold slotAny
  icases H0 with ⟨%f, H0⟩
  iapply (h f) $$ [H0 H]
  unfold slotAny
  isplitl [H0]
  · iexists f; iexact H0
  iexact H

/-! ## Closing the cells -/

omit [FloatOps F] in
theorem bigSep_Kd (Φ : Kd → sProp 𝕄) : bigSep Finset.univ Φ
    = iprop(Φ .bar ∗ Φ (.cred 0) ∗ Φ (.cred 1) ∗ Φ (.send 0 0) ∗ Φ (.send 0 1) ∗ Φ (.send 1 0) ∗ Φ (.send 1 1) ∗ Φ (.recv 0 0) ∗ Φ (.recv 0 1) ∗ Φ (.recv 1 0) ∗ Φ (.recv 1 1)) :=
  bigSep_univ_eq_bigSepL [Kd.bar, Kd.cred 0, Kd.cred 1, Kd.send 0 0, Kd.send 0 1, Kd.send 1 0, Kd.send 1 1, Kd.recv 0 0, Kd.recv 0 1, Kd.recv 1 0, Kd.recv 1 1] (by decide) (by decide) Φ

/-- The rounds a kind of cell has. -/
def lastOf : Kd → ℕ
  | .bar => 1
  | .cred _ => 29
  | .send _ _ => 15
  | .recv _ _ => 15

theorem duties_last : ∀ k : Kd, ∀ j, lastOf k ≤ j → (ringRd I).duties (cell c k) j = ∅
  | .bar => duties_bar_end I c
  | .cred r => duties_cred_end I c r
  | .send r k => duties_send_end I c r k
  | .recv r k => duties_recv_end I c r k

theorem close_one (k : Kd) : iprop(shared I κ ∗ atPos ER (cell c k) (lastOf k) ∅ 0) ⊢ iprop(|={Set.univ}=> semVal (cell c k) 0) := by
  iintro ⟨#Hsh, Hat⟩
  iapply (Rounds.cell_close ER (ringRd I) (Set.mem_univ (κ (c, k))) (fun h => h) (R := lastOf k) (duties_last I c k))
  isplitr
  · iapply (shared_inv I κ c k); iexact Hsh
  iexact Hat

/-- All of a device's cells stand after their last rounds. -/
def atEnd : sProp 𝕄 := bigSep Finset.univ fun k : Kd => atPos ER (cell c k) (lastOf k) ∅ 0

/-- What a device has of the protocol after the body: all its cells closed. -/
def closing : sProp 𝕄 := bigSep Finset.univ fun k : Kd => semVal (cell c k) 0

/-- Every cell of a device, after its last round, closes with its counter at zero. -/
theorem close_all : iprop(shared I κ ∗ atEnd c) ⊢ iprop(|={Set.univ}=> closing c) := by
  refine (sep_mono_left (BI.bigSep_of_persistent (Finset.univ : Finset Kd) (shared I κ))).trans ?_
  unfold atEnd closing
  rw [← bigSep_sep']
  exact (bigSep_mono fun k _ => close_one I κ c k).trans (bigSep_fupd _ _)

omit [FloatOps F] in
theorem atEnd_intro : iprop(atPos ER (cell c .bar) 1 ∅ 0
      ∗ (atPos ER (cell c (.cred 0)) 29 ∅ 0 ∗ atPos ER (cell c (.send 0 0)) 15 ∅ 0 ∗ atPos ER (cell c (.send 0 1)) 15 ∅ 0 ∗ atPos ER (cell c (.recv 0 0)) 15 ∅ 0 ∗ atPos ER (cell c (.recv 0 1)) 15 ∅ 0)
      ∗ (atPos ER (cell c (.cred 1)) 29 ∅ 0 ∗ atPos ER (cell c (.send 1 0)) 15 ∅ 0 ∗ atPos ER (cell c (.send 1 1)) 15 ∅ 0 ∗ atPos ER (cell c (.recv 1 0)) 15 ∅ 0 ∗ atPos ER (cell c (.recv 1 1)) 15 ∅ 0))
    ⊢ (atEnd c : sProp 𝕄) := by
  unfold atEnd
  rw [bigSep_Kd]
  iintro ⟨HB, ⟨H1, H2, H3, H4, H5⟩, ⟨G1, G2, G3, G4, G5⟩⟩
  isplitl [HB]; · iexact HB
  isplitl [H1]; · iexact H1
  isplitl [G1]; · iexact G1
  isplitl [H2]; · iexact H2
  isplitl [H3]; · iexact H3
  isplitl [G2]; · iexact G2
  isplitl [G3]; · iexact G3
  isplitl [H4]; · iexact H4
  isplitl [H5]; · iexact H5
  isplitl [G4]; · iexact G4
  iexact G5

/-! ## The barrier -/

theorem wp_tell (d : Fin 2) (O : CellTallies nD τ sig ℕ) (k : KProg F) :
    iprop(shared I κ ∗ owe c (O + tallyAt (barCell (prv d c)) 0 1) ∗ slotAny c d 1 ∗ dutyTok ER (barCell (prv d c)) 0 d ∗ (owe c O -∗ wpc c k Q))
      ⊢ wpc c (.op (.semSignal (prv d c : Thread nD τ) barS ((1 : ℕ) : Int)) fun _ => k) Q := by
  have hd : d ∈ (ringRd I).duties (barCell (prv d c)) 0 := by rw [duties_bar I (prv d c)]; exact Finset.mem_univ _
  unfold owe
  iintro ⟨#Hsh, ⟨%W, HO⟩, Hs, Htok, Hk⟩
  iapply (Rounds.wp_signal 𝒱₀ ER (ringRd I) (c : Thread nD τ) none (dst := (prv d c : Thread nD τ)) (κ := κ (prv d c, .bar)) (r := 0) (d := d)
      hd (amount_bar I (prv d c) 0 d) 0 (O₀ := O + tallyAt (barCell (prv d c)) 0 1) O rfl)
    $$ [HO Htok Hs]
  · isplitr; · iapply (shared_inv I κ (prv d c) .bar); iexact Hsh
    isplitl [HO]; · iexact HO
    isplitl [Htok]; · iexact Htok
    isplitl [Hs]
    · rw [payload_bar]; unfold barPay; rw [nxt_prv]
      isplitl [Hs]; · iexact Hs
      iapply (shared_reached I κ c (.recv d (rS 0))); iexact Hsh
    · iapply (shared_reached I κ (prv d c) .bar); iexact Hsh
  iintro HO
  iapply Hk
  iexists _; iexact HO

theorem wp_meet (O : CellTallies nD τ sig ℕ) (hO : Above 1 O) (k : KProg F) :
    iprop(shared I κ ∗ owe c O ∗ atPos ER (barCell c) 0 ∅ 0 ∗ cred (tallyAt (barCell c) 0 2)
        ∗ ((owe c O ∗ atPos ER (barCell c) 1 ∅ 0 ∗ aim 0 0 c ∗ aim 1 0 c) -∗ wpc c k Q))
      ⊢ wpc c (.op (.semWait barS ((2 : ℕ) : Int)) fun _ => k) Q := by
  have hMW : Above (lv (barCell c) 0) O := by rw [lv_bar]; exact hO
  have hE := expect_bar I c
  unfold owe
  iintro ⟨#Hsh, ⟨%W, HO⟩, Hat, Hc, Hk⟩
  iapply (Rounds.wp_wait_rest_token 𝒱₀ ER (ringRd I) (c : Thread nD τ) none (κ := κ (c, .bar))
      (wpE_semWait_eq 𝒱₀ (c : Thread nD τ) none Set.univ) (Set.mem_univ _) 0 (O := O) (W := W) (R := 0) (m := 0) (T := ∅)
      (by rw [hE])) $$ [Hc HO Hat]
  · isplitr; · iapply (shared_inv I κ c .bar); iexact Hsh
    isplitl [Hc]; · iexact Hc
    isplitl [HO]; · iexact HO
    isplitr
    · iapply (shared_mayWait I κ c (.reg barS) 0 (by omega) (O := O) hMW); iexact Hsh
    iexact Hat
  rw [rest_bar I c]
  iintro ⟨HO, Hat, -, ⟨Hp0, Hp1⟩⟩
  iapply Hk
  isplitl [HO]; · iexists _; iexact HO
  isplitl [Hat]; · iexact Hat
  unfold barPay aim
  icases Hp0 with ⟨Hs0, Hr0⟩
  icases Hp1 with ⟨Hs1, Hr1⟩
  isplitl [Hs0 Hr0]
  · isplitl [Hs0]; · iexact Hs0
    isplitl [Hr0]; · iexact Hr0
    iapply (shared_reached I κ c (.cred 0)); iexact Hsh
  · isplitl [Hs1]; · iexact Hs1
    isplitl [Hr1]; · iexact Hr1
    iapply (shared_reached I κ c (.cred 1)); iexact Hsh

/-! ## The whole body -/

/-- The two scales a device reads. -/
def scales : sProp 𝕄 := iprop((((c : Thread nD τ).loc cc0_stg2_0) ↦{fullShare} I.a c) ∗ (((c : Thread nD τ).loc cc0_stg3_0) ↦{fullShare} I.b c))

/-- What a device has of the protocol before the body. -/
def opening : sProp 𝕄 :=
  iprop((bigSep Finset.univ fun k : Kd => atPos ER (cell c k) 0 ∅ 0) ∗ (dutyTok ER (barCell (prv 0 c)) 0 0 ∗ dutyTok ER (barCell (prv 1 c)) 0 1)
    ∗ cred (tallyAt (barCell c) 0 2) ∗ (bigSep (Finset.Ico 0 30) (todo 0 c) ∗ bigSep (Finset.Ico 0 30) (todo 1 c)))

/-- The positions of a direction's cells, as the steps want them at the start. -/
theorem dir_start (r : Fin 2) :
    iprop(shared I κ ∗ slotHas c r 0 (val I r 0 c) ∗ aim r 0 c ∗ atPos ER (cell c (.cred r)) 0 ∅ 0 ∗ atPos ER (cell c (.send r 0)) 0 ∅ 0 ∗ atPos ER (cell c (.send r 1)) 0 ∅ 0
        ∗ atPos ER (cell c (.recv r 0)) 0 ∅ 0 ∗ atPos ER (cell c (.recv r 1)) 0 ∅ 0 ∗ bigSep (Finset.Ico 0 30) (todo r c))
      ⊢ dirAt I r 0 c := by
  unfold dirAt spare posAt
  rw [if_pos rfl]
  iintro ⟨#Hsh, Hs, Ha, Hc, Hs0, Hs1, Hv0, Hv1, Ht⟩
  isplitl [Hs]; · iexact Hs
  isplitl [Ha]; · iexact Ha
  isplitl [Hc]; · iexact Hc
  isplitl [Hs0]
  · isplitl [Hs0]; · iexact Hs0
    iapply (shared_reached I κ c (.send r 0)); iexact Hsh
  isplitl [Hs1]
  · isplitl [Hs1]; · iexact Hs1
    iapply (shared_reached I κ c (.send r 1)); iexact Hsh
  isplitl [Hv1]
  · isplitl [Hv1]; · iexact Hv1
    iapply (shared_reached I κ c (.recv r 1)); iexact Hsh
  isplitl [Hv0]
  · isplitl [Hv0]; · iexact Hv0
    iapply (shared_reached I κ c (.recv r 0)); iexact Hsh
  iexact Ht

/-- What a direction leaves at the end. -/
theorem dir_end (r : Fin 2) :
    dirAt I r 30 c ⊢ iprop((slotAny c r 0 ∗ slotAny c r 1) ∗ atPos ER (cell c (.cred r)) 29 ∅ 0 ∗ atPos ER (cell c (.send r 0)) 15 ∅ 0 ∗ atPos ER (cell c (.send r 1)) 15 ∅ 0
        ∗ atPos ER (cell c (.recv r 0)) 15 ∅ 0 ∗ atPos ER (cell c (.recv r 1)) 15 ∅ 0) := by
  have hs : slotHas c r (sS 30) (val I r 30 c) ⊢ slotAny c r 0 := slotHas_any c r 0 _
  unfold dirAt spare posAt
  rw [if_neg (by decide), if_pos rfl]
  iintro ⟨Hs, Ha, Hc, ⟨Hs0, -⟩, ⟨Hs1, -⟩, ⟨Hv1, -⟩, ⟨Hv0, -⟩, -⟩
  isplitl [Hs Ha]
  · isplitl [Hs]; · iapply hs $$ Hs
    iexact Ha
  isplitl [Hc]; · iexact Hc
  isplitl [Hs0]; · iexact Hs0
  isplitl [Hs1]; · iexact Hs1
  isplitl [Hv0]; · iexact Hv0
  iexact Hv1

seal stepsOp in
/-- The body: from the opening to every semaphore closed, the scratch buffer whole and the result written. -/
theorem wp_body (f : OutBuf F) :
    iprop(shared I κ ∗ opening c ∗ scrAny c ∗ own3 I c f ∗ scales I c ∗ owe c (O₀ c)
        ∗ ((closing c ∗ scrAny c ∗ own3 I c (result I c) ∗ scales I c ∗ owe c 0) -∗ Q ⟨⟩))
      ⊢ wpc c body Q := by
  have hB : Above 1 (Oat c 0) := above_Oat c 0 1 (by decide)
  have hout := outAt_end I c f
  have hend := Oat_end c
  unfold body
  rw [show wpc c (F := F) (.op .deviceId _) Q = _ from wp_deviceId ..]
  unfold opening scales
  rw [bigSep_Kd]
  iintro ⟨#Hsh, ⟨⟨HaB, HaC0, HaC1, HaS00, HaS01, HaS10, HaS11, HaV00, HaV01, HaV10, HaV11⟩, ⟨Ht0, Ht1⟩, HcB, Htd0, Htd1⟩, Hscr, Hm, ⟨Hsa, Hsb⟩, HO, Hk⟩
  ihave Hscr := (scr_split c) $$ Hscr
  icases Hscr with ⟨H00, H01, H10, H11⟩
  iapply (wp_tell I κ c Q 0 (Oat c 0 + tallyAt (barCell (right c)) 0 1)) $$ [-]
  isplitr; · iexact Hsh
  isplitl [HO]; · iexact HO
  isplitl [H01]; · iexact H01
  isplitl [Ht0]; · iexact Ht0
  iintro HO
  iapply (wp_tell I κ c Q 1 (Oat c 0)) $$ [-]
  isplitr; · iexact Hsh
  isplitl [HO]; · iexact HO
  isplitl [H11]; · iexact H11
  isplitl [Ht1]; · iexact Ht1
  iintro HO
  iapply (wp_meet I κ c Q (Oat c 0) hB) $$ [-]
  isplitr; · iexact Hsh
  isplitl [HO]; · iexact HO
  isplitl [HaB]; · iexact HaB
  isplitl [HcB]; · iexact HcB
  iintro ⟨HO, HaB, Haim0, Haim1⟩
  iapply (wp_smemLoadElt 𝒱₀ (c : Thread nD τ) none Set.univ (m := sxM) (r := Rect.unit (s := S1) ![0] S1.size inb_S1_S1_0) (S := Finset.univ) (Finset.subset_univ _)) $$ Hsa; iintro Hsa
  iapply (wp_smemLoadElt 𝒱₀ (c : Thread nD τ) none Set.univ (m := swM) (r := Rect.unit (s := S1) ![0] S1.size inb_S1_S1_0) (S := Finset.univ) (Finset.subset_univ _)) $$ Hsb; iintro Hsb
  iapply (wp_first I c Q 0 f) $$ [-]
  isplitl [H00]; · iexact H00
  isplitl [Hm]; · iexact Hm
  iintro ⟨H00, Hm⟩
  iapply (wp_first I c Q 1 f) $$ [-]
  isplitl [H10]; · iexact H10
  isplitl [Hm]; · iexact Hm
  iintro ⟨H10, Hm⟩
  iapply (wp_steps I κ c Q f 30 0 rfl) $$ [-]
  isplitr; · iexact Hsh
  isplitl [HO Haim0 Haim1 H00 H10 Hm HaC0 HaC1 HaS00 HaS01 HaS10 HaS11 HaV00 HaV01 HaV10 HaV11 Htd0 Htd1]
  · unfold stateAt
    isplitl [H00 Haim0 HaC0 HaS00 HaS01 HaV00 HaV01 Htd0]
    · iapply (dir_start I κ c 0)
      isplitr; · iexact Hsh
      isplitl [H00]; · iexact H00
      isplitl [Haim0]; · iexact Haim0
      isplitl [HaC0]; · iexact HaC0
      isplitl [HaS00]; · iexact HaS00
      isplitl [HaS01]; · iexact HaS01
      isplitl [HaV00]; · iexact HaV00
      isplitl [HaV01] <;> iassumption
    isplitl [H10 Haim1 HaC1 HaS10 HaS11 HaV10 HaV11 Htd1]
    · iapply (dir_start I κ c 1)
      isplitr; · iexact Hsh
      isplitl [H10]; · iexact H10
      isplitl [Haim1]; · iexact Haim1
      isplitl [HaC1]; · iexact HaC1
      isplitl [HaS10]; · iexact HaS10
      isplitl [HaS11]; · iexact HaS11
      isplitl [HaV10]; · iexact HaV10
      isplitl [HaV11] <;> iassumption
    isplitl [Hm]; · iexact Hm
    iexact HO
  rw [hout]
  unfold stateAt
  rw [hend]
  iintro ⟨Hd0, Hd1, Hm, HO⟩
  ihave Hd0 := (dir_end I c 0) $$ Hd0
  icases Hd0 with ⟨⟨H00, H01⟩, Ha0⟩
  ihave Hd1 := (dir_end I c 1) $$ Hd1
  icases Hd1 with ⟨⟨H10, H11⟩, Ha1⟩
  ihave Hend := (atEnd_intro c) $$ [HaB Ha0 Ha1]
  · isplitl [HaB]; · iexact HaB
    isplitl [Ha0] <;> iassumption
  imod (close_all I κ c) $$ [Hend] with Hz
  · isplitr; · iexact Hsh
    iexact Hend
  imodintro
  iapply Hk
  isplitl [Hz]; · iexact Hz
  isplitl [H00 H01 H10 H11]
  · iapply (scr_join c)
    isplitl [H00]; · iexact H00
    isplitl [H01]; · iexact H01
    isplitl [H10]; · iexact H10
    iexact H11
  isplitl [Hm]; · iexact Hm
  isplitl [Hsa Hsb]; · isplitl [Hsa] <;> iassumption
  iexact HO

end Cert.KernelIdeal.Ring

end
-- ==== Proof.Deal.lean ====
/-
# What the launch deals

The tokens of all duties, made at each cell's own device and dealt to the device that pays; and the credits, which are the
sums of what the neighbours owe.
-/
module

public import proofs.«01_k».proof.Proof.Sound
public import Idealize.ShloMosaic.Lib.Pipeline.Launch

@[expose] public section

set_option synthInstance.maxSize 4096

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (I : Inp F)

local notation "𝕄" => MT nD τ sig ℕ (Elt F) ℕ UU ℕ

/-! ## Tokens -/

/-- The duties of a device's own cells: which of four kinds, direction, step. -/
abbrev Du : Type := Fin 4 × Fin 2 × Fin 30

/-- The cell, the round and the duty of each. -/
def duKd (x : Du) : Kd := match x.1 with
  | 0 => Kd.send x.2.1 (sS x.2.2)
  | 1 => Kd.recv x.2.1 (rS x.2.2)
  | 2 => Kd.cred x.2.1
  | 3 => Kd.bar
def duRd (x : Du) : ℕ := match x.1 with
  | 0 => x.2.2 / 2
  | 1 => x.2.2 / 2
  | 2 => x.2.2
  | 3 => x.2.2
def duNo (x : Du) : Fin 2 := match x.1 with
  | 0 => 0
  | 1 => 0
  | 2 => 0
  | 3 => x.2.1

theorem du_inj : ∀ x y : Du, duKd x = duKd y → duRd x = duRd y → duNo x = duNo y → x = y := by
  rintro ⟨q, r, t⟩ ⟨q', r', t'⟩ h1 h2 h3
  fin_cases q <;> fin_cases q' <;> simp only [duKd, duRd, duNo, sS, rS, Kd.send.injEq, Kd.recv.injEq, Kd.cred.injEq, reduceCtorEq, Fin.mk.injEq] at h1 h2 h3
  · obtain ⟨h1, h4⟩ := h1
    exact Prod.ext rfl (Prod.ext h1 (Fin.ext (by show t.val = t'.val; omega)))
  · obtain ⟨h1, h4⟩ := h1
    exact Prod.ext rfl (Prod.ext h1 (Fin.ext (by show t.val = t'.val; omega)))
  · exact Prod.ext rfl (Prod.ext h1 (Fin.ext h2))
  · exact Prod.ext rfl (Prod.ext h3 (Fin.ext h2))

def duTok (x : Dev nD × Du) : GSem nD τ sig × ℕ × Fin 2 := (cell x.1 (duKd x.2), duRd x.2, duNo x.2)

theorem duTok_inj : Function.Injective duTok := by
  rintro ⟨c, x⟩ ⟨c', x'⟩ h
  obtain ⟨h1, h2⟩ := Prod.mk.inj h
  obtain ⟨h2, h3⟩ := Prod.mk.inj h2
  obtain ⟨hc, hk⟩ := cell_inj h1
  exact Prod.ext hc (du_inj x x' hk h2 h3)

theorem cell_injective : Function.Injective (fun x : Dev nD × Kd => cell x.1 x.2) := fun _ _ h =>
  Prod.ext (cell_inj h).1 (cell_inj h).2

def ringCells : Finset (GSem nD τ sig) := Finset.univ.map ⟨fun x : Dev nD × Kd => cell x.1 x.2, cell_injective⟩
def ringToks : Finset (GSem nD τ sig × ℕ × Fin 2) := Finset.univ.map ⟨duTok, duTok_inj⟩

/-- The token of a duty of `c`'s. -/
def tokAt (c : Dev nD) (x : Du) : sProp 𝕄 := dutyTok ER (cell c (duKd x)) (duRd x) (duNo x)

/-- The device whose cell device `c` pays by each kind of duty. -/
def payee (x : Du) : Dev nD ≃ Dev nD := match x.1 with
  | 0 => Equiv.refl _
  | 1 => turn x.2.1
  | 2 => (turn x.2.1).symm
  | 3 => (turn x.2.1).symm

omit [FloatOps F] in
/-- Every token to the device that pays it. -/
theorem deal : (bigSep Finset.univ fun c : Dev nD => bigSep Finset.univ fun x : Du => tokAt (F := F) c x)
    = bigSep Finset.univ fun c : Dev nD => bigSep Finset.univ fun x : Du => tokAt (F := F) (payee x c) x := by
  rw [bigSep_univ_comm, bigSep_univ_comm (fun (c : Dev nD) (x : Du) => tokAt (F := F) (payee x c) x)]
  exact bigSep_congr fun x _ => bigSep_univ_equiv (payee x) (fun c => tokAt (F := F) c x)

/-- The tokens of what device `c` pays in step `t` of direction `r`. -/
def stepToks (r : Fin 2) (c : Dev nD) (t : ℕ) : sProp 𝕄 :=
  iprop(dutyTok ER (sendCell c r (sS t)) (t / 2) 0 ∗ dutyTok ER (recvCell (nxt r c) r (rS t)) (t / 2) 0 ∗ dutyTok ER (credCell (prv r c) r) t 0)

/-- All the tokens of what device `c` pays. -/
def payToks (c : Dev nD) : sProp 𝕄 :=
  iprop((dutyTok ER (barCell (prv 0 c)) 0 0 ∗ dutyTok ER (barCell (prv 1 c)) 0 1)
    ∗ bigSep (Finset.Ico 0 30) (stepToks 0 c) ∗ bigSep (Finset.Ico 0 30) (stepToks 1 c))

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_30 (Φ : Fin 30 → sProp 𝕄) (Ψ : ℕ → sProp 𝕄) (h : ∀ t : Fin 30, Ψ t.val = Φ t) : bigSep Finset.univ Φ = bigSep (Finset.Ico 0 30) Ψ := by
  rw [← Finset.range_eq_Ico]
  exact Idealize.ShloMosaic.Ring.bigSep_fin_eq_range 30 Φ Ψ fun t ht => h ⟨t, ht⟩

omit [FloatOps F] in
theorem bar_tok (c : Dev nD) (r : Fin 2) : (bigSep Finset.univ fun t : Fin 30 => tokAt (F := F) (prv r c) (3, r, t)) ⊢ dutyTok ER (barCell (prv r c)) 0 r := by
  have h := bigSep_elim (Φ := fun t : Fin 30 => tokAt (F := F) (prv r c) (3, r, t)) (Finset.mem_univ (0 : Fin 30))
  exact h

omit [FloatOps F] in
theorem step_toks (c : Dev nD) (r : Fin 2) : iprop((bigSep Finset.univ fun t : Fin 30 => tokAt (F := F) c (0, r, t))
      ∗ (bigSep Finset.univ fun t : Fin 30 => tokAt (F := F) (nxt r c) (1, r, t)) ∗ (bigSep Finset.univ fun t : Fin 30 => tokAt (F := F) (prv r c) (2, r, t)))
    ⊢ bigSep (Finset.Ico 0 30) (stepToks r c) := by
  rw [← bigSep_30 (fun t : Fin 30 => stepToks r c t.val) (stepToks r c) fun _ => rfl]
  unfold stepToks
  rw [bigSep_sep', bigSep_sep']
  exact .rfl

omit [FloatOps F] in
theorem pay_intro (c : Dev nD) : (bigSep Finset.univ fun x : Du => tokAt (F := F) (payee x c) x) ⊢ payToks c := by
  rw [bigSep_univ_prod, bigSep_fin4]
  simp only [bigSep_univ_prod, bigSep_univ_two]
  unfold payToks
  iintro ⟨⟨Ha0, Ha1⟩, ⟨Hb0, Hb1⟩, ⟨Hc0, Hc1⟩, Hd0, Hd1⟩
  isplitl [Hd0 Hd1]
  · isplitl [Hd0]
    · iapply (bar_tok (F := F) c 0); iexact Hd0
    · iapply (bar_tok (F := F) c 1); iexact Hd1
  isplitl [Ha0 Hb0 Hc0]
  · iapply (step_toks (F := F) c 0)
    isplitl [Ha0]; · iexact Ha0
    isplitl [Hb0]; · iexact Hb0
    iexact Hc0
  · iapply (step_toks (F := F) c 1)
    isplitl [Ha1]; · iexact Ha1
    isplitl [Hb1]; · iexact Hb1
    iexact Hc1

/-! ## Credits -/

/-- What device `c` waits for in step `t` of direction `r`. -/
def Tat (r : Fin 2) (c : Dev nD) (t : ℕ) : CellTallies nD τ sig ℕ :=
  tallyAt (recvCell c r (rS t)) t N + if 1 ≤ t then tallyAt (credCell c r) (t - 1) 1 else 0

/-- All that device `c` waits for. -/
def T₀ (c : Dev nD) : CellTallies nD τ sig ℕ :=
  tallyAt (barCell c) 0 2 + ((∑ t ∈ Finset.Ico 0 30, Tat 0 c t) + ∑ t ∈ Finset.Ico 0 30, Tat 1 c t)

theorem sum_Olnd (r : Fin 2) : (∑ c : Dev nD, ∑ t ∈ Finset.Ico 0 30, Olnd r c t) = ∑ c : Dev nD, ∑ t ∈ Finset.Ico 0 30, tallyAt (recvCell c r (rS t)) t N :=
  Equiv.sum_comp (turn r) fun c : Dev nD => ∑ t ∈ Finset.Ico 0 30, (tallyAt (recvCell c r (rS t)) t N : CellTallies nD τ sig ℕ)

theorem sum_shift (g : ℕ → CellTallies nD τ sig ℕ) :
    (∑ t ∈ Finset.Ico 0 30, if t < 29 then g t else 0) = ∑ t ∈ Finset.Ico 0 30, if 1 ≤ t then g (t - 1) else 0 := by
  rw [← Finset.range_eq_Ico, Finset.sum_range_succ, Finset.sum_range_succ' _ 29, if_neg (by decide), if_neg (by decide)]
  refine congrArg (· + 0) (Finset.sum_congr rfl fun t ht => ?_)
  · rw [if_pos (Finset.mem_range.mp ht), if_pos (by omega), Nat.add_sub_cancel]

theorem sum_Ocrd (r : Fin 2) : (∑ c : Dev nD, ∑ t ∈ Finset.Ico 0 30, Ocrd r c t)
    = ∑ c : Dev nD, ∑ t ∈ Finset.Ico 0 30, if 1 ≤ t then tallyAt (credCell c r) (t - 1) 1 else 0 := by
  have h := Equiv.sum_comp (turn r).symm fun c : Dev nD => ∑ t ∈ Finset.Ico 0 30, (if t < 29 then tallyAt (credCell c r) t 1 else 0 : CellTallies nD τ sig ℕ)
  refine h.trans (Finset.sum_congr rfl fun c _ => sum_shift fun t => tallyAt (credCell c r) t 1)

theorem sum_O₀ : (∑ c : Dev nD, O₀ c) = ∑ c : Dev nD, T₀ c := by
  have hR : (∑ c : Dev nD, (tallyAt (barCell (right c)) 0 1 : CellTallies nD τ sig ℕ)) = ∑ c : Dev nD, tallyAt (barCell c) 0 1 :=
    Equiv.sum_comp (turn 0) fun c : Dev nD => (tallyAt (barCell c) 0 1 : CellTallies nD τ sig ℕ)
  have hL : (∑ c : Dev nD, (tallyAt (barCell (left c)) 0 1 : CellTallies nD τ sig ℕ)) = ∑ c : Dev nD, tallyAt (barCell c) 0 1 :=
    Equiv.sum_comp (turn 1) fun c : Dev nD => (tallyAt (barCell c) 0 1 : CellTallies nD τ sig ℕ)
  have hB : (∑ c : Dev nD, (tallyAt (barCell c) 0 2 : CellTallies nD τ sig ℕ)) = (∑ c : Dev nD, tallyAt (barCell c) 0 1) + ∑ c : Dev nD, tallyAt (barCell c) 0 1 := by
    rw [← Finset.sum_add_distrib]
    exact Finset.sum_congr rfl fun c _ => (tallyAt_add (barCell c) 0 1 1).symm
  unfold O₀ T₀ Oat Tat
  simp only [Finset.sum_add_distrib]
  rw [hR, hL, hB, sum_Olnd, sum_Olnd, sum_Ocrd, sum_Ocrd]
  abel

/-- All of it on `c`'s own cells. -/
def Own (c : Dev nD) (A : CellTallies nD τ sig ℕ) : Prop := ∀ g, A g ≠ 0 → g.1 = (c.tc : Thread nD τ)

theorem Own.zero (c : Dev nD) : Own c 0 := fun g h => absurd rfl h
theorem Own.at (c : Dev nD) (sm : SemLoc sig) (ι k : ℕ) : Own c (tallyAt ((c : Thread nD τ), sm) ι k) := fun g h => by
  by_contra hg
  refine h (Finsupp.ext fun ι' => ?_)
  rw [tallyAt_apply, if_neg fun hh => hg (congrArg Prod.fst hh.1)]; rfl
theorem Own.add {c : Dev nD} {A B : CellTallies nD τ sig ℕ} (hA : Own c A) (hB : Own c B) : Own c (A + B) := fun g h => by
  by_cases h0 : A g = 0
  · refine hB g fun h1 => h ?_
    rw [Pi.add_apply, h0, h1, add_zero]
  · exact hA g h0
theorem Own.sum {c : Dev nD} (S : Finset ℕ) (A : ℕ → CellTallies nD τ sig ℕ) (h : ∀ t, Own c (A t)) : Own c (∑ t ∈ S, A t) := by
  induction S using Finset.induction_on with
  | empty => rw [Finset.sum_empty]; exact Own.zero c
  | insert i S hi ih => rw [Finset.sum_insert hi]; exact (h i).add ih

theorem own_Tat (r : Fin 2) (c : Dev nD) (t : ℕ) : Own c (Tat r c t) := by
  unfold Tat
  refine (Own.at c _ _ _).add ?_
  split
  · exact Own.at c _ _ _
  · exact Own.zero c

theorem own_T₀ (c : Dev nD) : Own c (T₀ c) :=
  (Own.at c _ _ _).add ((Own.sum _ _ (own_Tat 0 c)).add (Own.sum _ _ (own_Tat 1 c)))

/-- The credits of a step. -/
def stepCreds (r : Fin 2) (c : Dev nD) (t : ℕ) : sProp 𝕄 := iprop(cred (tallyAt (recvCell c r (rS t)) t N) ∗ credTok r c t)

omit [FloatOps F] in
theorem cred_steps (r : Fin 2) (c : Dev nD) (S : Finset ℕ) : (cred (∑ t ∈ S, Tat r c t) : sProp 𝕄) ⊢ bigSep S (stepCreds (F := F) r c) := by
  induction S using Finset.induction_on with
  | empty => rw [Finset.sum_empty, cred_zero, bigSep_empty]; exact .rfl
  | insert i S hi ih =>
    rw [Finset.sum_insert hi, bigSep_insert hi]
    refine (cred_add _ _).1.trans (BI.sep_mono ?_ ih)
    unfold Tat stepCreds credTok
    refine (cred_add _ _).1.trans (sep_mono_right ?_)
    split
    · exact .rfl
    · rw [cred_zero]

omit [FloatOps F] in
theorem creds (c : Dev nD) : (Pipeline.launchCred O₀ c : sProp 𝕄)
    ⊢ iprop(cred (tallyAt (barCell c) 0 2) ∗ bigSep (Finset.Ico 0 30) (stepCreds 0 c) ∗ bigSep (Finset.Ico 0 30) (stepCreds 1 c)) := by
  rw [Pipeline.launchCred_of_sum O₀ T₀ sum_O₀ own_T₀ c]
  unfold T₀
  exact (cred_add _ _).1.trans (sep_mono_right ((cred_add _ _).1.trans (BI.sep_mono (cred_steps 0 c _) (cred_steps 1 c _))))

omit [FloatOps F] in
theorem todo_intro (r : Fin 2) (c : Dev nD) : iprop(bigSep (Finset.Ico 0 30) (stepToks r c) ∗ bigSep (Finset.Ico 0 30) (stepCreds r c))
    ⊢ bigSep (Finset.Ico 0 30) (todo (F := F) r c) := by
  rw [← bigSep_sep']
  refine bigSep_mono fun t _ => ?_
  exact (show iprop(stepToks r c t ∗ stepCreds r c t) ⊢ todo (F := F) r c t from by
    unfold stepToks stepCreds todo
    iintro ⟨⟨H1, H2, H3⟩, H4, H5⟩
    isplitl [H1]; · iexact H1
    isplitl [H2]; · iexact H2
    isplitl [H3]; · iexact H3
    isplitl [H4]; · iexact H4
    iexact H5)

omit [FloatOps F] in
/-- What device `c`'s body starts from, but for what all share. -/
theorem opening_intro (c : Dev nD) : iprop((bigSep Finset.univ fun k : Kd => atPos ER (cell c k) 0 ∅ 0) ∗ payToks (F := F) c ∗ Pipeline.launchCred O₀ c)
    ⊢ opening (F := F) c := by
  unfold payToks opening
  iintro ⟨Hat, ⟨Hb, Ht0, Ht1⟩, Hc⟩
  ihave Hc' := (creds (F := F) c) $$ Hc
  icases Hc' with ⟨Hcb, Hc0, Hc1⟩
  isplitl [Hat]; · iexact Hat
  isplitl [Hb]; · iexact Hb
  isplitl [Hcb]; · iexact Hcb
  isplitl [Ht0 Hc0]
  · iapply (todo_intro (F := F) 0 c)
    isplitl [Ht0]; · iexact Ht0
    iexact Hc0
  · iapply (todo_intro (F := F) 1 c)
    isplitl [Ht1]; · iexact Ht1
    iexact Hc1

end Cert.KernelIdeal.Ring

end
-- ==== Proof.Run.lean ====
/-
# The launch

The body runs on every device at once: from any memory with zero counters the program ends, each device's result buffer
holds `result`, its arguments are as they were, and every counter is zero again.
-/
module

public import proofs.«01_k».proof.Proof.Deal
public import Idealize.ShloMosaic.Lib.Pipeline.CollectiveSegs
public import proofs.«01_k».proof.Proof.Gen.KernelIdeal.Launch
public import proofs.«01_k».proof.Proof.Gen.KernelIdeal.Points

@[expose] public section

set_option synthInstance.maxSize 4096

noncomputable section

namespace Cert.KernelIdeal.Ring

open Cert.KernelIdeal.Gen
open Idealize.ShloMosaic Idealize.ShloMosaic.TcCoe
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig ℕ (Elt F) ℕ UU ℕ

/-- The start: any memory, every counter at zero. -/
def s₀ : MemSt nD τ sig (Elt F) := ⟨m, fun _ => 0, ρ⟩

/-- What the arguments hold, as the kernel finds them. -/
def inpOf : Inp F where
  x c := (win0_0.blk (0 : Fin 1)).view.read (Elt F) (m ((c : Thread nD τ).loc main_arg0))
  w c := (win0_1.blk (0 : Fin 1)).view.read (Elt F) (m ((c : Thread nD τ).loc main_arg1))
  a c := (win0_2.blk (0 : Fin 1)).view.read (Elt F) (m ((c : Thread nD τ).loc main_arg2))
  b c := (win0_3.blk (0 : Fin 1)).view.read (Elt F) (m ((c : Thread nD τ).loc main_arg3))

/-- What a device's body starts from, its scratch buffer apart. -/
def start (c : Dev nD) : sProp 𝕄 := iprop((∃ κ, shared (inpOf m) κ) ∗ opening c)
def Φ₀ (c : Dev nD) : sProp 𝕄 := iprop(start m c ∗ scrAny c)
def Φ₁ (c : Dev nD) : sProp 𝕄 := iprop(closing c ∗ scrAny c)

/-- The kernel's one point. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inpOf m).x c
    | ⟨1, _⟩ => (inpOf m).w c
    | ⟨2, _⟩ => (inpOf m).a c
    | ⟨3, _⟩ => (inpOf m).b c
    | ⟨4, _⟩ => result (inpOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt 0 t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt 0 t0_0.succ ∗ stg c cc0_stg0_0 ((inpOf m).x c) ∗ stg c cc0_stg1_0 ((inpOf m).w c)
    ∗ stg c cc0_stg2_0 ((inpOf m).a c) ∗ stg c cc0_stg3_0 ((inpOf m).b c) ∗ stg c cc0_stg4_0 (result (inpOf m) c))

theorem before_0 (c : Dev nD) (d) : (dats m ρ 0 c).before (0 : Fin 5) t0_0 d = (inpOf m).x c := by
  unfold Dat.before; rw [if_pos (fetch0_0 t0_0)]; rfl
theorem before_1 (c : Dev nD) (d) : (dats m ρ 0 c).before (1 : Fin 5) t0_0 d = (inpOf m).w c := by
  unfold Dat.before; rw [if_pos (fetch0_1 t0_0)]; rfl
theorem before_2 (c : Dev nD) (d) : (dats m ρ 0 c).before (2 : Fin 5) t0_0 d = (inpOf m).a c := by
  unfold Dat.before; rw [if_pos (fetch0_2 t0_0)]; rfl
theorem before_3 (c : Dev nD) (d) : (dats m ρ 0 c).before (3 : Fin 5) t0_0 d = (inpOf m).b c := by
  unfold Dat.before; rw [if_pos (fetch0_3 t0_0)]; rfl

theorem owes_start (c : Dev nD) : (dats m ρ 0 c).owesAt 0 t0_0.castSucc ⊢ owe (F := F) c (O₀ c) := by
  unfold Dat.owesAt Pipeline.owesWithin owe
  rw [show (dats m ρ 0 c).owed t0_0.castSucc = O₀ c from rfl]
  iintro ⟨%W, %hW, H⟩
  iexists W; iexact H
theorem owes_end (c : Dev nD) : owe (F := F) c 0 ⊢ (dats m ρ 0 c).owesAt 0 t0_0.succ := by
  unfold Dat.owesAt Pipeline.owesWithin owe
  rw [show (dats m ρ 0 c).owed t0_0.succ = 0 from rfl]
  iintro ⟨%W, H⟩
  iexists W
  isplitr; · ipureintro; exact fun _ _ => Or.inl trivial
  iexact H

theorem sound (c : Dev nD) : bodyPre m ρ c ⊢ wpc c body (fun _ => bodyPost m ρ c) := by
  unfold bodyPre Φ₀ start
  simp only [before_0, before_1, before_2, before_3]
  iintro ⟨⟨⟨⟨%κ, Hsh⟩, Hop⟩, Hscr⟩, Ho, ⟨%d0, %f0, %h0, H0⟩, ⟨%d1, %f1, %h1, H1⟩, ⟨%d2, %f2, %h2, H2⟩, ⟨%d3, %f3, %h3, H3⟩, ⟨%d4, %f4, -, H4⟩⟩
  subst h0 h1 h2 h3
  ihave Ho' := (owes_start m ρ c) $$ Ho
  iapply (wp_body (inpOf m) κ c (fun _ => bodyPost m ρ c) f4) $$ [-]
  isplitl [Hsh]; · iexact Hsh
  isplitl [Hop]; · iexact Hop
  isplitl [Hscr]; · iexact Hscr
  isplitl [H0 H1 H4]
  · unfold own3
    isplitl [H0]; · iexact H0
    isplitl [H1]; · iexact H1
    iexact H4
  isplitl [H2 H3]
  · unfold scales
    isplitl [H2]; · iexact H2
    iexact H3
  isplitl [Ho']; · iexact Ho'
  unfold own3 scales bodyPost Φ₁
  iintro ⟨Hcl, Hscr, ⟨H0, H1, H4⟩, ⟨H2, H3⟩, Ho⟩
  ihave Ho' := (owes_end m ρ c) $$ Ho
  isplitl [Hcl Hscr]
  · isplitl [Hcl]; · iexact Hcl
    iexact Hscr
  isplitl [Ho']; · iexact Ho'
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

omit [FloatOps F] in
theorem bigSep_win (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

seal cc0_body stepsOp in
set_option maxRecDepth 8000 in
theorem body_obligation (c : Dev nD) : BodyObligation (dats (F := F) m ρ 0 c) (defs₀ (F := F)) 𝒱₀ 0 Set.univ := fun t => by
  rw [show t = t0_0 from fin_N0 t]
  rw [bigSep_win, bigSep_win]
  simp only [owns_whole]
  show bodyPre m ρ c ⊢ wpc c (cc0_body (F := F) xM (Memref.isWhole_whole _) wM (Memref.isWhole_whole _) sxM (Memref.isWhole_whole _) swM (Memref.isWhole_whole _) oM (Memref.isWhole_whole _)
    cM (Memref.isWhole_whole _) cc0_scratch1 cc0_scratch2 cc0_scratch3 cc0_scratch4) (fun _ => bodyPost m ρ c)
  rw [body_eq]
  exact sound m ρ c

/-! ## The launch's resources -/

/-- The kinds of the kernel's own semaphores; the barrier is the system's. -/
def ownKd : Fin 10 → Kd
  | 0 => .cred 0 | 1 => .cred 1 | 2 => .send 0 0 | 3 => .send 0 1 | 4 => .send 1 0 | 5 => .send 1 1
  | 6 => .recv 0 0 | 7 => .recv 0 1 | 8 => .recv 1 0 | 9 => .recv 1 1
abbrev osem (i : Fin 10) : SemLoc sig := semOf (ownKd i)

theorem ownSemFacts : Pipeline.OwnSemFacts cfg0.spec osem := by decide

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

abbrev allAt (c : Dev nD) : sProp 𝕄 := bigSep Finset.univ fun k : Kd => iprop(atPos ER (cell c k) 0 ∅ 0 ∗ reached ER (cell c k) 0)
abbrev allToks (c : Dev nD) : sProp 𝕄 := bigSep Finset.univ fun x : Du => tokAt c x

/-- A device's share of the launch's protocol state. -/
def G (c : Dev nD) : sProp 𝕄 := iprop((bigSep Finset.univ fun k : Kd => roundState ER (ringRd (inpOf m)) (cell c k) 0) ∗ allAt c ∗ allToks c)

/-- What all the devices' shares make for one of them. -/
def G' (c : Dev nD) : sProp 𝕄 :=
  iprop((∃ κ : Dev nD × Kd → ℕ, (bigSep Finset.univ fun x : Dev nD × Kd => cellInv ER (ringRd (inpOf m)) (κ x) (cell x.1 x.2))
      ∗ (bigSep Finset.univ fun x : Dev nD × Kd => reached ER (cell x.1 x.2) 0))
    ∗ (bigSep Finset.univ fun k : Kd => atPos ER (cell c k) 0 ∅ 0) ∗ payToks c)

omit [FloatOps F] in
theorem on_cells (Φ : GSem nD τ sig → sProp 𝕄) : bigSep ringCells Φ = bigSep Finset.univ fun c : Dev nD => bigSep Finset.univ fun k : Kd => Φ (cell c k) := by
  unfold ringCells; rw [bigSep_map, bigSep_univ_prod]; rfl
omit [FloatOps F] in
theorem on_toks : bigSep ringToks (fun x => (dutyTok ER x.1 x.2.1 x.2.2 : sProp 𝕄)) = bigSep Finset.univ fun c : Dev nD => allToks c := by
  unfold ringToks; rw [bigSep_map, bigSep_univ_prod]; rfl

theorem fund_ring : BI.own (ER (initOf ringCells ringToks)) ⊢ (|==> bigSep Finset.univ (G m) : sProp 𝕄) := by
  unfold G; simp only [bigSep_sep']
  iintro HX
  imod (Rounds.fund ER (ringRd (inpOf m)) ringCells ringToks) $$ HX with ⟨Hst, Hr, Hat, Htok⟩
  imodintro
  ihave Hst' := (Entails.of_eq (on_cells fun g => roundState ER (ringRd (inpOf m)) g 0)) $$ Hst
  ihave Hat' := (Entails.of_eq (on_cells fun g => atPos ER g 0 ∅ 0)) $$ Hat
  ihave Hr' := (Entails.of_eq (on_cells fun g => reached ER g 0)) $$ Hr
  ihave Htok' := (Entails.of_eq on_toks) $$ Htok
  isplitl [Hst']; · iexact Hst'
  isplitl [Hat' Hr']
  · isplitl [Hat'] <;> iassumption
  iexact Htok'

omit [FloatOps F] in
theorem ownSems0_eq (c : Dev nD) : (Pipeline.ownSems0 (Ix := ℕ) (Name := ℕ) (U := UU) (Lvl := ℕ) (Val := Elt F) (τ := τ) osem c : sProp 𝕄)
    = iprop(semVal (cell c (.cred 0)) 0 ∗ semVal (cell c (.cred 1)) 0 ∗ semVal (cell c (.send 0 0)) 0 ∗ semVal (cell c (.send 0 1)) 0
      ∗ semVal (cell c (.send 1 0)) 0 ∗ semVal (cell c (.send 1 1)) 0 ∗ semVal (cell c (.recv 0 0)) 0 ∗ semVal (cell c (.recv 0 1)) 0
      ∗ semVal (cell c (.recv 1 0)) 0 ∗ semVal (cell c (.recv 1 1)) 0) := by
  rw [Pipeline.ownSems0_eq_of_list c osem [0, 1, 2, 3, 4, 5, 6, 7, 8, 9] (by decide) (by decide)]; rfl
omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
/-- A device's cells are the kernel's own semaphores and the system's. -/
theorem sems0_eq (c : Dev nD) : (closing c : sProp 𝕄) = iprop(unscopedSems0 c ∗ Pipeline.ownSems0 osem c) := by
  unfold closing; rw [ownSems0_eq, unscopedSems0_eq, bigSep_Kd]

theorem open_cells (c : Dev nD) : iprop(closing c ∗ bigSep Finset.univ fun k : Kd => roundState ER (ringRd (inpOf m)) (cell c k) 0)
    ⊢ (|={Set.univ}=> bigSep Finset.univ fun k : Kd => iprop(∃ κ : ℕ, cellInv ER (ringRd (inpOf m)) κ (cell c k)) : sProp 𝕄) := by
  unfold closing
  rw [← bigSep_sep']
  exact (bigSep_mono fun k _ => (Rounds.body_intro ER (ringRd (inpOf m)) (cell c k)).trans inv_alloc).trans (bigSep_fupd _ _)

theorem core_alloc (c : Dev nD) : iprop(Pipeline.ownSems0 (Ix := ℕ) (Name := ℕ) (U := UU) (Lvl := ℕ) (Val := Elt F) (τ := τ) osem c ∗ unscopedSems0 c ∗ G m c)
    ⊢ |={Set.univ}=> iprop((bigSep Finset.univ fun k : Kd => iprop(∃ κ : ℕ, cellInv ER (ringRd (inpOf m)) κ (cell c k))) ∗ allAt c ∗ allToks c) := by
  unfold G
  iintro ⟨Hos, Hus, Hst, Hat, Htok⟩
  imod (open_cells m c) $$ [Hos Hus Hst] with Hinv
  · isplitl [Hos Hus]
    · rw [sems0_eq]
      isplitl [Hus]; · iexact Hus
      iexact Hos
    iexact Hst
  imodintro
  isplitl [Hinv]; · iexact Hinv
  isplitl [Hat]; · iexact Hat
  iexact Htok

/-- What all devices know of one another. -/
def known (κ : Dev nD × Kd → ℕ) : sProp 𝕄 :=
  iprop((bigSep Finset.univ fun x : Dev nD × Kd => cellInv ER (ringRd (inpOf m)) (κ x) (cell x.1 x.2))
    ∗ (bigSep Finset.univ fun x : Dev nD × Kd => reached ER (cell x.1 x.2) 0))

instance known_persistent (κ : Dev nD × Kd → ℕ) : BI.Persistent (known m κ) := by unfold known; infer_instance

theorem G'_intro (κ : Dev nD × Kd → ℕ) (c : Dev nD) :
    iprop(known m κ ∗ (bigSep Finset.univ fun k : Kd => atPos ER (cell c k) 0 ∅ 0) ∗ payToks c) ⊢ G' m c := by
  unfold known G'
  iintro ⟨HK, HL⟩
  isplitl [HK]
  · iexists κ; iexact HK
  iexact HL

omit [FloatOps F] in
theorem deal_all : (bigSep Finset.univ fun c : Dev nD => (allToks c : sProp 𝕄)) ⊢ bigSep Finset.univ fun c : Dev nD => payToks c :=
  (Entails.of_eq deal).trans (bigSep_mono fun c _ => pay_intro c)

omit [FloatOps F] in
theorem split_at : (bigSep Finset.univ fun c : Dev nD => (allAt c : sProp 𝕄))
    = iprop((bigSep Finset.univ fun c : Dev nD => bigSep Finset.univ fun k : Kd => atPos ER (cell c k) 0 ∅ 0)
      ∗ bigSep Finset.univ fun x : Dev nD × Kd => reached ER (cell x.1 x.2) 0) := by
  rw [bigSep_univ_prod (fun x : Dev nD × Kd => (reached ER (cell x.1 x.2) 0 : sProp 𝕄)), ← bigSep_sep']
  exact bigSep_congr fun c _ => bigSep_sep' _ _ _

omit [FloatOps F] in
theorem join_lin : iprop((bigSep Finset.univ fun c : Dev nD => bigSep Finset.univ fun k : Kd => atPos ER (cell c k) 0 ∅ 0) ∗ bigSep Finset.univ fun c : Dev nD => payToks c)
    ⊢ (bigSep Finset.univ fun c : Dev nD => iprop((bigSep Finset.univ fun k : Kd => atPos ER (cell c k) 0 ∅ 0) ∗ payToks c) : sProp 𝕄) := by
  rw [bigSep_sep']

theorem regroup : (bigSep Finset.univ fun c : Dev nD =>
      iprop((bigSep Finset.univ fun k : Kd => iprop(∃ κ : ℕ, cellInv ER (ringRd (inpOf m)) κ (cell c k))) ∗ allAt c ∗ allToks c) : sProp 𝕄)
    ⊢ bigSep Finset.univ (G' m) := by
  rw [bigSep_sep', bigSep_sep', ← bigSep_univ_prod (fun x : Dev nD × Kd => iprop(∃ κ : ℕ, cellInv ER (ringRd (inpOf m)) κ (cell x.1 x.2))), split_at]
  iintro ⟨HI, ⟨Hat, HR⟩, Htok⟩
  ihave HK := (BI.bigSep_exists_pi Finset.univ (fun (x : Dev nD × Kd) (κ : ℕ) => (cellInv ER (ringRd (inpOf m)) κ (cell x.1 x.2) : sProp 𝕄))) $$ HI
  icases HK with ⟨%κ, HI⟩
  ihave Htk := deal_all $$ Htok
  iapply (bigSep_with_persistent (R := known m κ) fun c _ => G'_intro m κ c)
  isplitl [HI HR]
  · unfold known
    isplitl [HI]; · iexact HI
    iexact HR
  · iapply (join_lin (F := F))
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' shared
  iintro ⟨-, Hlev, Hcr, -, ⟨%κ, HI, HR⟩, Hat, Hpay⟩
  imodintro
  isplitl
  · isplitl [HI HR Hlev]
    · iexists κ
      isplitl [HI]; · iexact HI
      isplitl [HR]; · iexact HR
      iexact Hlev
    · iapply (opening_intro (F := F) c)
      isplitl [Hat]; · iexact Hat
      isplitl [Hpay]; · iexact Hpay
      iexact Hcr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrAny
  iintro ⟨Hs, -, Hr⟩
  isplitl [Hs]; · iexact Hs
  iexact Hr

theorem phi1_exit (c : Dev nD) : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scrAny
  rw [sems0_eq]
  iintro ⟨⟨Hu, Ho⟩, Hr⟩
  isplitl [Hu]; · iexact Hu
  isplitl [Ho]; · iexact Ho
  iexact Hr

theorem above_owed (c : Dev nD) (t : Fin (cfg0.N + 1)) : Above 0 ((dats m ρ 0 c).owed t) := by
  rcases t with ⟨_ | _, ht⟩
  · exact above_O₀ c
  · exact Above.zero 0

theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) (by
      rw [show lv ((c : Thread nD τ), _) 0 = 0 by fin_cases w <;> fin_cases s <;> rfl]
      exact above_owed m ρ c _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

seal cc0_body stepsOp in
set_option maxRecDepth 8000 in
/-- Every fair execution ends, with the windows' arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold after it -/

theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

/-- Every fair execution ends, with the arguments as they were and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c (0 : Fin 5)).trans (finalA_0 m ρ c), (h.1 c (1 : Fin 5)).trans (finalA_1 m ρ c),
     (h.1 c (2 : Fin 5)).trans (finalA_2 m ρ c), (h.1 c (3 : Fin 5)).trans (finalA_3 m ρ c)⟩, h.2⟩) (run_main m ρ)

end Cert.KernelIdeal.Ring

end
-- ==== Proof.Sums.lean ====
/-
# The ring's sums over the extended reals

A block of the result starts as one device's product, gains the product of each device it passes, and is scaled and cut
off at zero by the last of the sixteen. What it then holds is the sum over all devices, whatever the order.
-/
module

public import proofs.«01_k».proof.Proof.Result
public import Idealize.ShloMosaic.Lib.Pointwise
public import Idealize.ShloMosaic.Lib.Claim
public import Idealize.ShloMosaic.Lib.Pipeline.ValueKit

@[expose] public section

set_option synthInstance.maxSize 4096

noncomputable section

namespace Cert.KernelIdeal.Ring

open Cert.KernelIdeal.Gen
open Idealize.ShloMosaic Idealize.ShloMosaic.TcCoe

variable (I : Inp Ideal)

/-! ## Which block, and which device -/

/-- The block of rows device `c` sends in step `s` of direction `r`. -/
def chk : Fin 2 → ℕ → Dev nD → Fin 16
  | 0, s, c => ⟨(c.val + 15 * s) % 16, Nat.mod_lt _ (by decide)⟩
  | 1, s, c => ⟨(c.val + s) % 16, Nat.mod_lt _ (by decide)⟩

/-- The device `t` places before `c` in direction `r`. -/
def back (r : Fin 2) : ℕ → Dev nD → Dev nD
  | 0, c => c
  | t + 1, c => back r t (prv r c)

theorem prv_val : ∀ r (c : Dev nD), (prv r c).val = if r = 0 then (c.val + 15) % 16 else (c.val + 1) % 16 := by decide +kernel

theorem chk_succ (s : ℕ) (c : Dev nD) : ∀ r, chk r (s + 1) c = chk r s (prv r c)
  | 0 => Fin.ext (by
    have h := prv_val 0 c
    rw [if_pos rfl] at h
    show (c.val + 15 * (s + 1)) % 16 = ((prv 0 c).val + 15 * s) % 16
    omega)
  | 1 => Fin.ext (by
    have h := prv_val 1 c
    rw [if_neg (by decide)] at h
    show (c.val + (s + 1)) % 16 = ((prv 1 c).val + s) % 16
    omega)

theorem chk_back (r : Fin 2) (s : ℕ) : ∀ (t : ℕ) (c : Dev nD), chk r s (back r t c) = chk r (s + t) c
  | 0, _ => rfl
  | t + 1, c => (chk_back r s t (prv r c)).trans (chk_succ (s + t) c r).symm

/-- Sixteen places back meet every device once. -/
theorem back_bij : ∀ (r : Fin 2) (c : Dev nD), Function.Bijective fun t : Fin 16 => back r t.val c := by
  intro r c
  refine Finite.injective_iff_bijective.mp ?_
  revert r c
  unfold Function.Injective
  decide +kernel

/-- A sum over the sixteen places back is the sum over the devices. -/
theorem sum_back (r : Fin 2) (c : Dev nD) (f : Dev nD → EReal) : ∑ t ∈ Finset.range 16, f (back r t c) = ∑ d, f d :=
  (Fin.sum_univ_eq_sum_range (fun t => f (back r t c)) 16).symm.trans ((back_bij r c).sum_comp f)

/-! ## The products -/

/-! The elements of a device's arguments, as extended reals. -/

def xEl (c : Dev nD) (i : S4096x256.Idx) : EReal := I.x c i
def wEl (c : Dev nD) (i : S256x2048.Idx) : EReal := I.w c i
def aEl (c : Dev nD) : EReal := I.a c (ix1 0 : S1.Idx)
def bEl (c : Dev nD) : EReal := I.b c (ix1 0 : S1.Idx)

/-- Device `c`'s product for block `q` of the rows and half `r` of the columns. -/
def prod (c : Dev nD) (q : Fin 16) (r : Fin 2) (i : S256x1024.Idx) : EReal :=
  ∑ k : Fin 256, xEl I c (ix2 ⟨256 * q.val + (i 0).val, by have := q.isLt; have : (i 0).val < 256 := (i 0).isLt; omega⟩ k)
    * wEl I c (ix2 k ⟨1024 * r.val + (i 1).val, by have := r.isLt; have : (i 1).val < 1024 := (i 1).isLt; omega⟩)

/-- The product of two blocks. -/
def mul (x : Vec Ideal S256x256 .fp8e4m3) (w : Vec Ideal S256x1024 .fp8e4m3) (i : S256x1024.Idx) : EReal :=
  ∑ k : Fin 256, x (ix2 (i 0) k) * w (ix2 k (i 1))

theorem first_apply (x : Vec Ideal S256x256 .fp8e4m3) (w : Vec Ideal S256x1024 .fp8e4m3) (i : S256x1024.Idx) :
    k0_pay1 (k0_pay4 x w) i = mul x w i := by
  pointwise [k0_pay1, k0_pay4, mul]

theorem add_apply (v : Vec Ideal S1x1x256x1024 .f32) (x : Vec Ideal S256x256 .fp8e4m3) (w : Vec Ideal S256x1024 .fp8e4m3) (i : S256x1024.Idx) :
    k0_pay1 (k0_pay8 v x w) i = k0_pay1 v i + mul x w i := by
  pointwise [k0_pay1, k0_pay8, mul]

theorem last_apply (s : Ideal .f32) (v : Vec Ideal S1x1x256x1024 .f32) (x : Vec Ideal S256x256 .fp8e4m3) (w : Vec Ideal S256x1024 .fp8e4m3) (i : S256x1024.Idx) :
    k0_pay1 (k0_pay54 s v x w) i = max ((k0_pay1 v i + mul x w i) * s) 0 := by
  pointwise [k0_pay1, k0_pay53, k0_pay54, mul]

theorem mul_eq (c : Dev nD) (q : Fin 16) (r : Fin 2) (R : Fin 2 → ℕ) (hR : ∀ a, R a + S256x256.size a ≤ S4096x256.size a)
    (h : R = ![256 * q.val, 0]) (i : S256x1024.Idx) : mul (xblk I c R hR) (wblk I c r) i = prod I c q r i := by
  subst h
  unfold mul prod
  refine Finset.sum_congr rfl fun k _ => congrArg₂ (· * ·) ?_ ?_
  · refine congrArg (xEl I c) (funext fun a => Fin.ext ?_)
    fin_cases a
    · show 256 * q.val + 1 * (i 0).val = 256 * q.val + (i 0).val
      omega
    · show 0 + 1 * k.val = k.val
      omega
  · refine congrArg (wEl I c) (funext fun a => Fin.ext ?_)
    fin_cases a
    · show 0 + 1 * k.val = k.val
      omega
    · show 1024 * r.val + 1 * (i 1).val = 1024 * r.val + (i 1).val
      omega

theorem xOff_eq (c : Dev nD) (s : ℕ) (h : s < 15) : ∀ r, xOff c s r = ![256 * (chk r (s + 1) c).val, 0]
  | 0 => (k0_off2_eq c ⟨s, h⟩).trans (by
    show ![256 * ((c.val + 15 - s) % 16), 0] = ![256 * ((c.val + 15 * (s + 1)) % 16), 0]
    rw [show (c.val + 15 - s) % 16 = (c.val + 15 * (s + 1)) % 16 by omega])
  | 1 => (k0_off3_eq c ⟨s, h⟩).trans rfl

theorem off1_eq (c : Dev nD) : ∀ r, k0_off1 c = ![256 * (chk r 0 c).val, 0]
  | 0 => (k0_off1_eq c).trans (by
    have h : c.val < 16 := c.isLt
    show ![256 * c.val, 0] = ![256 * ((c.val + 15 * 0) % 16), 0]
    rw [show (c.val + 15 * 0) % 16 = c.val by omega])
  | 1 => (k0_off1_eq c).trans (by
    have h : c.val < 16 := c.isLt
    show ![256 * c.val, 0] = ![256 * ((c.val + 0) % 16), 0]
    rw [show (c.val + 0) % 16 = c.val by omega])

/-! ## The sums -/

/-- After `s` sums a block holds the products of the device and of the `s` devices before it. -/
theorem val_sum (r : Fin 2) (i : S256x1024.Idx) : ∀ s, s ≤ 14 → ∀ c : Dev nD,
    k0_pay1 (val I r s c) i = ∑ t ∈ Finset.range (s + 1), prod I (back r t c) (chk r s c) r i
  | 0, _, c => by
    rw [Finset.sum_range_one]
    exact (first_apply _ _ i).trans (mul_eq I c (chk r 0 c) r _ _ (off1_eq c r) i)
  | s + 1, h, c => by
    have hs : s < 14 := by omega
    rw [Finset.sum_range_succ']
    show k0_pay1 (upd I r s c (val I r s (prv r c))) i = _
    unfold upd
    rw [dif_pos hs, add_apply, val_sum r i s (by omega) (prv r c), mul_eq I c (chk r (s + 1) c) r _ _ (xOff_eq c s (by omega) r) i, chk_succ]
    rfl

/-- The last sum: all sixteen products, scaled and cut off at zero. -/
theorem val_last (r : Fin 2) (i : S256x1024.Idx) (c : Dev nD) :
    k0_pay1 (val I r 15 c) i = max ((∑ d, prod I d (chk r 15 c) r i) * scale I c) 0 := by
  rw [← sum_back r c, Finset.sum_range_succ']
  show k0_pay1 (upd I r 14 c (val I r 14 (prv r c))) i = _
  unfold upd
  rw [dif_neg (by decide), if_pos rfl, last_apply, val_sum I r i 14 (by decide) (prv r c), mul_eq I c (chk r 15 c) r _ _ (xOff_eq c 14 (by decide) r) i, ← chk_succ 14 c r]
  rfl

/-- After that a block is only passed on. -/
theorem val_late (r : Fin 2) : ∀ t (c : Dev nD), val I r (15 + t) c = val I r 15 (back r t c)
  | 0, _ => rfl
  | t + 1, c => by
    show upd I r (15 + t) c (val I r (15 + t) (prv r c)) = _
    unfold upd
    rw [dif_neg (by omega), if_neg (by omega), val_late r t (prv r c)]
    rfl

theorem chk_late (c : Dev nD) (q : ℕ) (hq : q < 16) : ∀ r, (chk r (15 + lateOf r q c) c).val = q
  | 0 => by
    have h : c.val < 16 := c.isLt
    show (c.val + 15 * (15 + (c.val + 17 - q) % 16)) % 16 = q
    omega
  | 1 => by
    have h : c.val < 16 := c.isLt
    show (c.val + (15 + (q + 17 - c.val) % 16)) % 16 = q
    omega

theorem scale_eq (c : Dev nD) : scale I c = aEl I c * bEl I c := by
  refine congrArg₂ (· * ·) (congrArg (I.a c) ?_) (congrArg (I.b c) ?_) <;>
  · refine funext fun a => Fin.ext ?_
    fin_cases a
    rfl

/-- The result on every device, when the scales are the same everywhere. -/
theorem result_apply (a b : EReal) (ha : ∀ c, aEl I c = a) (hb : ∀ c, bEl I c = b) (c : Dev nD) (i : S4096x2048.Idx) :
    result I c i = max ((∑ d : Dev nD, ∑ k : Fin 256, xEl I d (ix2 (i 0) k) * wEl I d (ix2 k (i 1))) * (a * b)) 0 := by
  have hq : (i (0 : Fin 2)).val / 256 < 16 := by have := (i (0 : Fin 2)).isLt; change _ < 4096 at this; omega
  unfold result
  rw [show 14 + lateOf (halfOf i) ((i (0 : Fin 2)).val / 256) c + 1 = 15 + lateOf (halfOf i) ((i (0 : Fin 2)).val / 256) c by omega,
    val_late, val_last, scale_eq, ha, hb, chk_back]
  have hc := chk_late c _ hq (halfOf i)
  refine congrArg (fun z : EReal => max (z * _) 0) (Finset.sum_congr rfl fun d _ => ?_)
  unfold prod
  refine Finset.sum_congr rfl fun k _ => congrArg₂ (· * ·) (congrArg _ ?_) (congrArg _ ?_)
  · refine funext fun a => Fin.ext ?_
    fin_cases a
    · show 256 * (chk (halfOf i) (15 + lateOf (halfOf i) ((i (0 : Fin 2)).val / 256) c) c).val + (i (0 : Fin 2)).val % 256 = (i (0 : Fin 2)).val
      omega
    · rfl
  · refine funext fun a => Fin.ext ?_
    fin_cases a
    · rfl
    · show 1024 * ((i (1 : Fin 2)).val / 1024) + (i (1 : Fin 2)).val % 1024 = (i (1 : Fin 2)).val
      omega

end Cert.KernelIdeal.Ring

end
-- ==== Proof.RefValue.lean ====
/-
# What the reference computes

The reference's result, element by element: a sum over the 4096 columns of its first argument, scaled and cut off at zero.
-/
module

public import proofs.«01_k».proof.Proof.Gen.ReferenceIdeal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option synthInstance.maxSize 4096

noncomputable section

namespace Cert.ReferenceIdeal.Plain

open Cert.ReferenceIdeal Cert.ReferenceIdeal.Gen
open Idealize.ShloMosaic Idealize.ShloMosaic.TcCoe
open Idealize.ShloMosaic.Pipeline (Dat)

/-- The function both programs compute: the product of the two arrays, scaled and cut off at zero. -/
def plain (X : Vec Ideal S4096x4096 .fp8e4m3) (W : Vec Ideal S4096x2048 .fp8e4m3) (a b : Vec Ideal S1 .f32) : Vec Ideal S4096x2048 .f32 :=
  fun j => max ((∑ k : Fin 4096, X (ix2 (j 0) k) * W (ix2 k (j 1))) * (a (ix1 0) * b (ix1 0))) 0

theorem pay_eq (X : Vec Ideal S4096x4096 .fp8e4m3) (W : Vec Ideal S4096x2048 .fp8e4m3) (a b : Elt Ideal .f32) (j : S4096x2048.Idx) :
    k0_pay1 X W a b j = max ((∑ k : Fin 4096, X (ix2 (j 0) k) * W (ix2 k (j 1))) * (a * b)) (0 : EReal) := by
  pointwise [k0_pay1]

variable (m : (ℓ : Loc nD τ sig) → Buf (Elt Ideal) ℓ)

/-! The one block of every window is the whole array. -/

theorem at0 (t : Fin cfg0.N) : ∀ a, win0_0.index t a = 0 := by revert t; decide +kernel
theorem at1 (t : Fin cfg0.N) : ∀ a, win0_1.index t a = 0 := by revert t; decide +kernel
theorem at2 (t : Fin cfg0.N) : ∀ a, win0_2.index t a = 0 := by revert t; decide +kernel
theorem at3 (t : Fin cfg0.N) : ∀ a, win0_3.index t a = 0 := by revert t; decide +kernel
theorem at4 (t : Fin cfg0.N) : ∀ a, win0_4.index t a = 0 := by revert t; decide +kernel

theorem first_eq (h : 0 < S1.numel) : Shape.Idx.first h = (ix1 0 : S1.Idx) := by
  blk_ext

theorem read0 (c : Dev nD) (t : Fin cfg0.N) : iblk m c 0 t = m ((c : Thread nD τ).loc main_arg0) := by
  funext y; blk_ext [iblk, at0 t]
theorem read1 (c : Dev nD) (t : Fin cfg0.N) : iblk m c 1 t = m ((c : Thread nD τ).loc main_arg1) := by
  funext y; blk_ext [iblk, at1 t]
theorem read2 (c : Dev nD) (t : Fin cfg0.N) : iblk m c 2 t = m ((c : Thread nD τ).loc main_arg2) := by
  funext y; blk_ext [iblk, at2 t]
theorem read3 (c : Dev nD) (t : Fin cfg0.N) : iblk m c 3 t = m ((c : Thread nD τ).loc main_arg3) := by
  funext y; blk_ext [iblk, at3 t]

theorem emb_self (t : Fin cfg0.N) (y : S4096x2048.Idx) : ((View.whole main_v0).slice (win0_4.rect t)).emb y = y := by
  blk_ext [at4 t]

/-- The reference's result array is the plain function of its arguments. -/
theorem final_eq (c : Dev nD) : (dats m 0 c).arrAt 4 cfg0.N
    = plain (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  simp only [read_unread_whole]
  rw [read0, read1, read2, read3, pay_eq]
  rw [emb_self t y, first_eq]
  rfl

end Cert.ReferenceIdeal.Plain

end
-- ==== Proof.Value.lean ====
/-
# The two programs' results agree

The sixteen devices' products, each over 256 columns, add up to the reference's product over 4096, because device `d`
holds the columns `256 d` to `256 d + 255`.
-/
module

public import proofs.«01_k».proof.Defs
public import proofs.«01_k».proof.Proof.Run
public import proofs.«01_k».proof.Proof.Sums
public import proofs.«01_k».proof.Proof.RefValue

@[expose] public section

set_option synthInstance.maxSize 4096

noncomputable section

namespace Cert.KernelIdeal.Ring

open Cert.KernelIdeal.Gen
open Idealize.ShloMosaic Idealize.ShloMosaic.TcCoe Idealize.SL.Sem

variable (m : (ℓ : Loc nD τ sig) → Buf (Elt Ideal) ℓ) (ρ : Dev nD → PrngReg)

/-! The one block of every window is the whole array. -/

theorem at0 (t : Fin cfg0.N) : ∀ a, win0_0.index t a = 0 := by revert t; decide +kernel
theorem at1 (t : Fin cfg0.N) : ∀ a, win0_1.index t a = 0 := by revert t; decide +kernel
theorem at2 (t : Fin cfg0.N) : ∀ a, win0_2.index t a = 0 := by revert t; decide +kernel
theorem at3 (t : Fin cfg0.N) : ∀ a, win0_3.index t a = 0 := by revert t; decide +kernel
theorem at4 (t : Fin cfg0.N) : ∀ a, win0_4.index t a = 0 := by revert t; decide +kernel

theorem inp_x (c : Dev nD) : (inpOf m).x c = m ((c : Thread nD τ).loc main_arg0) := by
  funext y
  show (win0_0.blk (0 : Fin 1)).view.read (Elt Ideal) (m ((c : Thread nD τ).loc main_arg0)) y = _
  blk_ext [at0 (0 : Fin 1)]
theorem inp_w (c : Dev nD) : (inpOf m).w c = m ((c : Thread nD τ).loc main_arg1) := by
  funext y
  show (win0_1.blk (0 : Fin 1)).view.read (Elt Ideal) (m ((c : Thread nD τ).loc main_arg1)) y = _
  blk_ext [at1 (0 : Fin 1)]
theorem inp_a (c : Dev nD) : (inpOf m).a c = m ((c : Thread nD τ).loc main_arg2) := by
  funext y
  show (win0_2.blk (0 : Fin 1)).view.read (Elt Ideal) (m ((c : Thread nD τ).loc main_arg2)) y = _
  blk_ext [at2 (0 : Fin 1)]
theorem inp_b (c : Dev nD) : (inpOf m).b c = m ((c : Thread nD τ).loc main_arg3) := by
  funext y
  show (win0_3.blk (0 : Fin 1)).view.read (Elt Ideal) (m ((c : Thread nD τ).loc main_arg3)) y = _
  blk_ext [at3 (0 : Fin 1)]

theorem emb_self (t : Fin cfg0.N) (y : S4096x2048.Idx) : ((View.whole main_v1).slice (win0_4.rect t)).emb y = y := by
  blk_ext [at4 t]

/-- The result array is what the thirty steps write. -/
theorem finalA_4 (c : Dev nD) : finalA m ρ c (4 : Fin 5) = result (inpOf m) c := by
  refine (dats m ρ 0 c).arrAt_eq_of_covers 4 _ (by decide +kernel) fun t hf y => ?_
  blk_simp
  rw [emb_self t y]
  rfl

/-- The result is the plain function of the whole arrays the devices hold blocks of. -/
theorem result_plain (X : Vec Ideal ⟨2, ![4096, 4096]⟩ .fp8e4m3) (W : Vec Ideal ⟨2, ![4096, 2048]⟩ .fp8e4m3) (a b : Vec Ideal S1 .f32)
    (hx : ∀ c : Dev nD, m ((c : Thread nD τ).loc main_arg0) = Layout.block ⟨2, ![4096, 256]⟩ ⟨2, ![4096, 4096]⟩ 1 16 c X)
    (hw : ∀ c : Dev nD, m ((c : Thread nD τ).loc main_arg1) = Layout.block ⟨2, ![256, 2048]⟩ ⟨2, ![4096, 2048]⟩ 0 16 c W)
    (ha : ∀ c : Dev nD, m ((c : Thread nD τ).loc main_arg2) = a) (hb : ∀ c : Dev nD, m ((c : Thread nD τ).loc main_arg3) = b) (c : Dev nD) :
    result (inpOf m) c = Cert.ReferenceIdeal.Plain.plain X W a b := by
  funext i
  rw [result_apply (inpOf m) (a (ix1 0)) (b (ix1 0)) (fun c => congrFun ((inp_a m c).trans (ha c)) _) (fun c => congrFun ((inp_b m c).trans (hb c)) _) c i]
  unfold Cert.ReferenceIdeal.Plain.plain
  rw [Fin.sum_univ_tiles 16 256 rfl]
  refine congrArg (fun z : EReal => max (z * _) 0) (Finset.sum_congr rfl fun d _ => Finset.sum_congr rfl fun k _ => congrArg₂ (· * ·) ?_ ?_)
  · refine (congrFun ((inp_x m d).trans (hx d)) _).trans (congrArg X (funext fun z => Fin.ext ?_))
    fin_cases z <;> rfl
  · refine (congrFun ((inp_w m d).trans (hw d)) _).trans (congrArg W (funext fun z => Fin.ext ?_))
    fin_cases z <;> rfl

end Cert.KernelIdeal.Ring

namespace Cert

open Idealize.ShloMosaic Idealize.ShloMosaic.TcCoe Idealize.SL.Sem

theorem same_result : algebraic_KernelIdeal_ReferenceIdeal (hKernelIdeal := KernelIdeal.Gen.facts) (hReferenceIdeal := ReferenceIdeal.Gen.facts) := by
  intro m g m' g' _ h
  refine ⟨_, (θ_run _ _ _).mono (fun r hr c => ?_) (KernelIdeal.Ring.run_main m g), (θ_run _ _ _).mono (fun r hr => hr 0) (ReferenceIdeal.Value.run_blocks m' g')⟩
  refine ⟨(hr.1 c (4 : Fin 5)).trans ((KernelIdeal.Ring.finalA_4 m g c).trans ?_), (hr.1 c (0 : Fin 5)).trans (KernelIdeal.Ring.finalA_0 m g c), (hr.1 c (1 : Fin 5)).trans (KernelIdeal.Ring.finalA_1 m g c),
     (hr.1 c (2 : Fin 5)).trans (KernelIdeal.Ring.finalA_2 m g c), (hr.1 c (3 : Fin 5)).trans (KernelIdeal.Ring.finalA_3 m g c)⟩
  rw [ReferenceIdeal.Plain.final_eq]
  exact KernelIdeal.Ring.result_plain m _ _ _ _ (fun c => (h c).1) (fun c => (h c).2.1) (fun c => (h c).2.2.1) (fun c => (h c).2.2.2) c

end Cert

end
-- ==== Proof.lean ====
/-
# The claims

The runs of the program over the bits and over the reals, the run of the reference, and that the last two leave the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Value
public import proofs.«01_k».proof.Proof.Kernel.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Ring.ends m ρ,
  fun m ρ _ => Cert.KernelIdeal.Ring.ends m ρ,
  fun m ρ _ => Cert.ReferenceIdeal.Gen.frame m ρ,
  trivial, Cert.same_result⟩

end Cert.Proof

end
